-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok_KernelIdeal [hPre_inputs_ok_KernelIdeal : Cert.Pre_inputs_ok_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok_ReferenceIdeal [hPre_inputs_ok_ReferenceIdeal : Cert.Pre_inputs_ok_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_inputs_ok_KernelIdeal [hKernelIdeal : Cert.KernelIdeal.Facts] [hPre_inputs_ok_KernelIdeal : Cert.Pre_inputs_ok_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_inputs_ok_ReferenceIdeal [hReferenceIdeal : Cert.ReferenceIdeal.Facts] [hPre_inputs_ok_ReferenceIdeal : Cert.Pre_inputs_ok_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_inputs_ok_KernelIdeal [hKernelIdeal : Cert.KernelIdeal.Facts] [hReferenceIdeal : Cert.ReferenceIdeal.Facts] [hPre_inputs_ok_KernelIdeal : Cert.Pre_inputs_ok_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 4096]⟩ ⟨2, ![512, 16384]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_inputs_ok_KernelIdeal : Cert.Pre_inputs_ok_KernelIdeal.Facts) (hPre_inputs_ok_ReferenceIdeal : Cert.Pre_inputs_ok_ReferenceIdeal.Facts),
    quiescent_Kernel (hKernel := hKernel)
    ∧ quiescent_KernelIdeal (hKernelIdeal := hKernelIdeal)
    ∧ quiescent_KernelIdeal_pre_inputs_ok_KernelIdeal (hKernelIdeal := hKernelIdeal) (hPre_inputs_ok_KernelIdeal := hPre_inputs_ok_KernelIdeal)
    ∧ quiescent_ReferenceIdeal (hReferenceIdeal := hReferenceIdeal)
    ∧ quiescent_ReferenceIdeal_pre_inputs_ok_ReferenceIdeal (hReferenceIdeal := hReferenceIdeal) (hPre_inputs_ok_ReferenceIdeal := hPre_inputs_ok_ReferenceIdeal)
    ∧ preserves_Kernel_KernelIdeal
    ∧ algebraic_KernelIdeal_ReferenceIdeal_pre_inputs_ok_KernelIdeal (hKernelIdeal := hKernelIdeal) (hReferenceIdeal := hReferenceIdeal) (hPre_inputs_ok_KernelIdeal := hPre_inputs_ok_KernelIdeal)
-- ==== Pre_inputs_ok_KernelIdeal.lean ====
abbrev S256x512 : Shape := ⟨2, ![256, 512]⟩
abbrev S512x4096 : Shape := ⟨2, ![512, 4096]⟩
abbrev S256 : Shape := ⟨1, ![256]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S256x512 .f32) (main_arg1 : FVec F S512x4096 .f32) (main_arg2 : IVec S256 32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_c_2 : IVec S_ 32 := constantI S_ 32 0#32
  let main_v9 : IVec S256 32 := broadcastInDim S256 ![] bcast_S_S256 main_c_2
  let main_v10 : IVec S256 1 := cmpi .sge main_arg2 main_v9
  let main_c_3 : IVec S_ 1 := constantI S_ 1 1#1
  let main_v11 : IVec S_ 1 := (fun x v => Host.reduce IntOp.andi x v reducesTo_S256_S_d0 h_S_) main_v10 main_c_3
  let main_v12 : IVec S_ 1 := andi main_v8 main_v11
  let main_c_4 : IVec S_ 32 := constantI S_ 32 16384#32
  let main_v13 : IVec S256 32 := broadcastInDim S256 ![] bcast_S_S256 main_c_4
  let main_v14 : IVec S256 1 := cmpi .slt main_arg2 main_v13
  let main_c_5 : IVec S_ 1 := constantI S_ 1 1#1
  let main_v15 : IVec S_ 1 := (fun x v => Host.reduce IntOp.andi x v reducesTo_S256_S_d0 h_S_) main_v14 main_c_5
  fn_part1 (F := F) main_v12 main_v15
-- ==== Pre_inputs_ok_ReferenceIdeal.lean ====
abbrev S256x512 : Shape := ⟨2, ![256, 512]⟩
abbrev S512x16384 : Shape := ⟨2, ![512, 16384]⟩
abbrev S256 : Shape := ⟨1, ![256]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x16384 : S_.BroadcastsInDim S512x16384 (![] : Fin 0 → Fin S512x16384.rank)
  reducesTo_S512x16384_S_d0_1 : S512x16384.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S256x512 .f32) (main_arg1 : FVec F S512x16384 .f32) (main_arg2 : IVec S256 32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x16384 .f32 := Host.absf main_arg1
  let main_cst_0 : FVec F S_ .f32 := constant S_ .f32 0x7F800000#32
  let main_v5 : FVec F S512x16384 .f32 := broadcastInDim S512x16384 ![] bcast_S_S512x16384 main_cst_0
  let main_v6 : IVec S512x16384 1 := cmpf .olt main_v4 main_v5
  let main_c_1 : IVec S_ 1 := constantI S_ 1 1#1
  let main_v7 : IVec S_ 1 := (fun x v => Host.reduce IntOp.andi x v reducesTo_S512x16384_S_d0_1 h_S_) main_v6 main_c_1
  let main_v8 : IVec S_ 1 := andi main_v3 main_v7
  let main_c_2 : IVec S_ 32 := constantI S_ 32 0#32
  let main_v9 : IVec S256 32 := broadcastInDim S256 ![] bcast_S_S256 main_c_2
  let main_v10 : IVec S256 1 := cmpi .sge main_arg2 main_v9
  let main_c_3 : IVec S_ 1 := constantI S_ 1 1#1
  let main_v11 : IVec S_ 1 := (fun x v => Host.reduce IntOp.andi x v reducesTo_S256_S_d0 h_S_) main_v10 main_c_3
  let main_v12 : IVec S_ 1 := andi main_v8 main_v11
  let main_c_4 : IVec S_ 32 := constantI S_ 32 16384#32
  let main_v13 : IVec S256 32 := broadcastInDim S256 ![] bcast_S_S256 main_c_4
  let main_v14 : IVec S256 1 := cmpi .slt main_arg2 main_v13
  let main_c_5 : IVec S_ 1 := constantI S_ 1 1#1
  let main_v15 : IVec S_ 1 := (fun x v => Host.reduce IntOp.andi x v reducesTo_S256_S_d0 h_S_) main_v14 main_c_5
  fn_part1 (F := F) main_v12 main_v15
-- ==== Kernel.lean ====
abbrev S256x512 : Shape := ⟨2, ![256, 512]⟩
abbrev S512x4096 : Shape := ⟨2, ![512, 4096]⟩
abbrev S256 : Shape := ⟨1, ![256]⟩
abbrev S4x2x256 : Shape := ⟨3, ![4, 2, 256]⟩
abbrev S3 : Shape := ⟨1, ![3]⟩
abbrev S_ : Shape := ⟨0, ![]⟩
abbrev S256x4096 : Shape := ⟨2, ![256, 4096]⟩
abbrev S256x1 : Shape := ⟨2, ![256, 1]⟩
abbrev S1x1x256 : Shape := ⟨3, ![1, 1, 256]⟩
abbrev S1 : Shape := ⟨1, ![1]⟩
abbrev S1x2x256 : Shape := ⟨3, ![1, 2, 256]⟩
abbrev S2x256 : Shape := ⟨2, ![2, 256]⟩
abbrev S4x1x256 : Shape := ⟨3, ![4, 1, 256]⟩
abbrev S4x256 : Shape := ⟨2, ![4, 256]⟩

abbrev nBuf : Space → Nat
  | .hbm => 4
  | .vmem => 5
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256, .i32⟩
  | .hbm, ⟨3, _⟩ => ⟨S256, .f32⟩
  | .local _ .vmem, ⟨0, _⟩ => ⟨S256x512, .f32⟩
  | .local _ .vmem, ⟨1, _⟩ => ⟨S512x4096, .f32⟩
  | .local _ .vmem, ⟨2, _⟩ => ⟨S256, .i32⟩
  | .local _ .vmem, ⟨3, _⟩ => ⟨S256, .f32⟩
  | .local _ .vmem, ⟨4, _⟩ => ⟨S4x2x256, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_25 : BitVec 32 := 1#32
  let v41 : BitVec 32 := Scalar.addi v2 c1_i32_25
  let c4_i32_26 : BitVec 32 := 4#32
  let v42 : BitVec 32 := Scalar.remsi v41 c4_i32_26
  let c1_i32_31 : BitVec 32 := 1#32
  let v43 : BitVec 32 := Scalar.muli v42 c1_i32_31
  let v44 : BitVec 32 := Scalar.addi c0_i32_32 v43
  v44.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_37 : BitVec 32 := 2#32
  let v53 : BitVec 32 := Scalar.addi v2 c2_i32_37
  let c4_i32_38 : BitVec 32 := 4#32
  let v54 : BitVec 32 := Scalar.remsi v53 c4_i32_38
  let c1_i32_43 : BitVec 32 := 1#32
  let v55 : BitVec 32 := Scalar.muli v54 c1_i32_43
  let v56 : BitVec 32 := Scalar.addi c0_i32_44 v55
  v56.toNat
def k0_dev6 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_49 : BitVec 32 := 3#32
  let v65 : BitVec 32 := Scalar.addi v2 c3_i32_49
  let c4_i32_50 : BitVec 32 := 4#32
  let v66 : BitVec 32 := Scalar.remsi v65 c4_i32_50
  let c1_i32_55 : BitVec 32 := 1#32
  let v67 : BitVec 32 := Scalar.muli v66 c1_i32_55
  let v68 : BitVec 32 := Scalar.addi c0_i32_56 v67
  v68.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x512 : Shape := ⟨2, ![256, 512]⟩
abbrev S512x16384 : Shape := ⟨2, ![512, 16384]⟩
abbrev S256 : Shape := ⟨1, ![256]⟩
abbrev S256x16384 : Shape := ⟨2, ![256, 16384]⟩
abbrev S_ : Shape := ⟨0, ![]⟩
abbrev S256x1 : Shape := ⟨2, ![256, 1]⟩
abbrev S256x2 : Shape := ⟨2, ![256, 2]⟩

abbrev nBuf : Space → Nat
  | .hbm => 36
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x16384, .f32⟩
  | .hbm, ⟨2, _⟩ => ⟨S256, .i32⟩
  | .hbm, ⟨3, _⟩ => ⟨S256x16384, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S256x16384, .f32⟩
  | .hbm, ⟨8, _⟩ => ⟨S256x16384, .f32⟩
  | .hbm, ⟨9, _⟩ => ⟨S256x16384, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256, .f32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S_, .i32⟩
  | .hbm, ⟨25, _⟩ => ⟨S256, .i32⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S256x1, .i32⟩
  | .hbm, ⟨32, _⟩ => ⟨S256x1, .i32⟩
  | .hbm, ⟨33, _⟩ => ⟨S256x2, .i32⟩
  | .hbm, ⟨34, _⟩ => ⟨S256, .f32⟩
  | .hbm, ⟨35, _⟩ => ⟨S256, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Slots.lean ====
/-
# The exchange buffer

The kernel's scratch buffer `cc0_scratch0` holds four slots of two rows: slot `0` the device's own message (the sums of
exponentials and the picked logits of its columns), slot `s ≥ 1` the message of the device `s` places before it around
the mesh. This module names the slots, the message of a device, the contents `comm` the buffer has once every message
has arrived, and proves what a store of the own message, a copy of a slot and the split of the buffer do to them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Ring.Trips
public import Idealize.ShloMosaic.Lib.ValueIdx
public import Idealize.ShloMosaic.Lib.Tactic

@[expose] public section

noncomputable section

namespace Cert.Xent

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The mesh as a circle of four devices -/

set_option backward.proofsInPublic true in
/-- The device `k + 1` places after `c`: whom `c`'s signal and copy number `k` address. -/
def fwd (k : Fin 3) (c : Dev nD) : Dev nD := ⟨(c.val + k.val + 1) % 4, Nat.mod_lt _ (by decide)⟩
set_option backward.proofsInPublic true in
/-- The device `s` places before `c`: whose message slot `s` of `c` holds. -/
def srcOf (s : Fin 4) (c : Dev nD) : Dev nD := ⟨(c.val + (4 - s.val)) % 4, Nat.mod_lt _ (by decide)⟩

theorem srcOf_fwd (k : Fin 3) (c : Dev nD) : srcOf k.succ (fwd k c) = c := by revert k c; decide
theorem fwd_srcOf (k : Fin 3) (c : Dev nD) : fwd k (srcOf k.succ c) = c := by revert k c; decide
theorem srcOf_zero (c : Dev nD) : srcOf 0 c = c := by revert c; decide
/-- The way back of `k + 1` places forward is `rev k + 1` places forward. -/
theorem fwd_rev (k : Fin 3) (c : Dev nD) : fwd (Fin.rev k) (fwd k c) = c := by revert k c; decide
theorem fwd_rev' (k : Fin 3) (c : Dev nD) : fwd k (fwd (Fin.rev k) c) = c := by revert k c; decide

/-- Going forward by `k + 1` as a permutation of the devices. -/
def turn (k : Fin 3) : Dev nD ≃ Dev nD := ⟨fwd k, fwd (Fin.rev k), fwd_rev k, fwd_rev' k⟩

theorem dev1_eq (c : Dev nD) : (⟨k0_dev1 c, k0_dev1_lt c⟩ : Dev nD) = fwd 0 c := Fin.ext (k0_dev1_eq c)
theorem dev2_eq (c : Dev nD) : (⟨k0_dev2 c, k0_dev2_lt c⟩ : Dev nD) = fwd 1 c := Fin.ext (k0_dev2_eq c)
theorem dev3_eq (c : Dev nD) : (⟨k0_dev3 c, k0_dev3_lt c⟩ : Dev nD) = fwd 2 c := Fin.ext (k0_dev3_eq c)
theorem dev4_eq (c : Dev nD) : (⟨k0_dev4 c, k0_dev4_lt c⟩ : Dev nD) = fwd 0 c := Fin.ext (k0_dev4_eq c)
theorem dev5_eq (c : Dev nD) : (⟨k0_dev5 c, k0_dev5_lt c⟩ : Dev nD) = fwd 1 c := Fin.ext (k0_dev5_eq c)
theorem dev6_eq (c : Dev nD) : (⟨k0_dev6 c, k0_dev6_lt c⟩ : Dev nD) = fwd 2 c := Fin.ext (k0_dev6_eq c)

/-! ## The slots -/

theorem inb_slot : ∀ s : Fin 4, ∀ a, (![s.val, 0, 0] : Fin 3 → Nat) a + S1x2x256.size a ≤ S4x2x256.size a := by decide

/-- Slot `s`'s rectangle of the exchange buffer, and its memref as the kernel's copies name it. -/
abbrev slotRect (s : Fin 4) : Rect S4x2x256 := Rect.unit (s := S4x2x256) ![s.val, 0, 0] S1x2x256.size (inb_slot s)
abbrev bufM : Memref sig .tc .vmem S4x2x256 .f32 := Memref.whole cc0_scratch0
abbrev slotM (s : Fin 4) : Memref sig .tc .vmem S2x256 .f32 :=
  (bufM.slice (slotRect s) (fun _ => rfl)).squeeze S2x256 squeezes_S1x2x256_S2x256

theorem slotM_0 : (bufM.slice (Rect.unit (s := S4x2x256) ![0, 0, 0] S1x2x256.size inb_S4x2x256_S1x2x256_0_0_0) (fun _ => rfl)).squeeze S2x256 squeezes_S1x2x256_S2x256 = slotM 0 := rfl
theorem slotM_1 : (bufM.slice (Rect.unit (s := S4x2x256) ![1, 0, 0] S1x2x256.size inb_S4x2x256_S1x2x256_1_0_0) (fun _ => rfl)).squeeze S2x256 squeezes_S1x2x256_S2x256 = slotM 1 := rfl
theorem slotM_2 : (bufM.slice (Rect.unit (s := S4x2x256) ![2, 0, 0] S1x2x256.size inb_S4x2x256_S1x2x256_2_0_0) (fun _ => rfl)).squeeze S2x256 squeezes_S1x2x256_S2x256 = slotM 2 := rfl
theorem slotM_3 : (bufM.slice (Rect.unit (s := S4x2x256) ![3, 0, 0] S1x2x256.size inb_S4x2x256_S1x2x256_3_0_0) (fun _ => rfl)).squeeze S2x256 squeezes_S1x2x256_S2x256 = slotM 3 := rfl

/-- The elements of slot `s`: those at first coordinate `s`. -/
def slotSet (s : Fin 4) : Finset S4x2x256.Idx := (slotRect s).set

theorem slotM_set (s : Fin 4) : (slotM s).view.set = slotSet s := by
  exact (View.set_reshape _ _).trans (View.set_slice_whole _ _)

theorem mem_slotSet {s : Fin 4} {i : S4x2x256.Idx} : i ∈ slotSet s ↔ (i 0).val = s.val := by
  unfold slotSet
  rw [Rect.mem_set_unit]
  constructor
  · intro h
    have := h 0
    simp only [Matrix.cons_val_zero] at this
    omega
  · intro h a
    have h1 : (i 1).val < 2 := (i 1).isLt
    have h2 : (i 2).val < 256 := (i 2).isLt
    fin_cases a
    · show s.val ≤ (i 0).val ∧ (i 0).val < s.val + 1
      omega
    · show 0 ≤ (i 1).val ∧ (i 1).val < 0 + 2
      omega
    · show 0 ≤ (i 2).val ∧ (i 2).val < 0 + 256
      omega

theorem slots_disjoint (s s' : Fin 4) (h : s ≠ s') : Disjoint (slotSet s) (slotSet s') :=
  Finset.disjoint_left.mpr fun i hi hi' => h (Fin.ext ((mem_slotSet.mp hi).symm.trans (mem_slotSet.mp hi')))

theorem slots_cover : (Finset.univ : Finset (Fin 4)).biUnion slotSet = Finset.univ := by
  ext i
  simp only [Finset.mem_biUnion, Finset.mem_univ, true_and, iff_true]
  exact ⟨i 0, mem_slotSet.mpr rfl⟩

/-! ## What the buffer holds -/

variable (m : (ℓ : Loc nD τ sig) → Buf (Elt F) ℓ)

/-- Device `c`'s copy of the activations, its block of columns of the weights, its copy of the labels. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))
def lstg (c : Dev nD) : (cc0_stg2_0 : Ref sig .tc).ty.Contents (Elt F) :=
  (win0_2.blk (0 : Fin 1)).view.read (Elt F) (m ((c : Thread nD τ).loc main_arg2))

/-- The two rows of device `c`'s message: per token the sum over the device's columns of the exponentials of the logits,
    and the logit at the token's label if that column is the device's. -/
def sumRow (c : Dev nD) : FVec F S1x1x256 .f32 := k0_pay5 (k0_pay3 (xstg m c) (wstg m c))
def labRow (c : Dev nD) : FVec F S1x1x256 .f32 :=
  k0_pay6 (k0_pay2 (xstg m c) (wstg m c)) (iota .tc S256x4096 32 [1] iota_S256x4096_d1_w32) (k0_pay4 (F := F) c (lstg m c))

/-- Device `c`'s message, laid out at every slot alike. -/
def own (c : Dev nD) : (cc0_scratch0 : Ref sig .tc).ty.Contents (Elt F) := fun i =>
  if (i 1).val = 0 then sumRow m c (ix3 0 0 (i 2)) else labRow m c (ix3 0 0 (i 2))

/-- The exchange buffer of device `c` once every message has arrived. -/
def comm (c : Dev nD) : (cc0_scratch0 : Ref sig .tc).ty.Contents (Elt F) := fun i => own m (srcOf (i 0) c) i

theorem own_congr (c : Dev nD) {i i' : S4x2x256.Idx} (h1 : (i 1).val = (i' 1).val) (h2 : (i 2).val = (i' 2).val) :
    own m c i = own m c i' := by
  have h2' : i 2 = i' 2 := Fin.ext h2
  simp only [own, h1, h2']

theorem comm_at (c : Dev nD) {s : Fin 4} {i : S4x2x256.Idx} (hi : i ∈ slotSet s) : comm m c i = own m (srcOf s c) i := by
  have : i 0 = s := Fin.ext (mem_slotSet.mp hi)
  unfold comm; rw [this]

/-- A copy of slot `0` of device `c` into slot `s`, whatever that held, leaves `c`'s message there. -/
theorem landed (c : Dev nD) (s : Fin 4) (fd : (cc0_scratch0 : Ref sig .tc).ty.Contents (Elt F)) (i : S4x2x256.Idx) (hi : i ∈ slotSet s) :
    (slotM s).view.write (Elt F) fd ((slotM 0).view.read (Elt F) (comm m c)) Finset.univ i = own m c i := by
  rw [← slotM_set] at hi
  obtain ⟨k, -, rfl⟩ := Finset.mem_map.mp hi
  rw [View.write_emb_of_mem _ _ (Finset.mem_univ k), View.read_apply, cast_cast, cast_eq]
  have h0 : (slotM 0).view.emb k ∈ slotSet 0 := by rw [← slotM_set]; exact View.emb_mem_set _ _
  rw [comm_at m c h0, srcOf_zero]
  exact own_congr m c rfl rfl

/-- Slot `k + 1` of the device `k + 1` places after `c` holds `c`'s message at the end. -/
theorem comm_fwd (c : Dev nD) (k : Fin 3) (i : S4x2x256.Idx) (hi : i ∈ slotSet k.succ) : comm m (fwd k c) i = own m c i := by
  rw [comm_at m (fwd k c) hi, srcOf_fwd]

/-! ### The stores of the own message -/

abbrev rowRect0 : Rect S4x2x256 := Rect.unit (s := S4x2x256) ![0, 0, 0] S1x1x256.size inb_S4x2x256_S1x1x256_0_0_0
abbrev rowRect1 : Rect S4x2x256 := Rect.unit (s := S4x2x256) ![0, 1, 0] S1x1x256.size inb_S4x2x256_S1x1x256_0_1_0

theorem mem_rowRect0 {i : S4x2x256.Idx} : i ∈ rowRect0.set ↔ (i 0).val = 0 ∧ (i 1).val = 0 := by
  rw [Rect.mem_set_unit]
  have h2 : (i 2).val < 256 := (i 2).isLt
  constructor
  · intro h
    have h0 : 0 ≤ (i 0).val ∧ (i 0).val < 0 + 1 := h 0
    have h1 : 0 ≤ (i 1).val ∧ (i 1).val < 0 + 1 := h 1
    omega
  · intro h a
    fin_cases a
    · show 0 ≤ (i 0).val ∧ (i 0).val < 0 + 1
      omega
    · show 0 ≤ (i 1).val ∧ (i 1).val < 0 + 1
      omega
    · show 0 ≤ (i 2).val ∧ (i 2).val < 0 + 256
      omega

theorem mem_rowRect1 {i : S4x2x256.Idx} : i ∈ rowRect1.set ↔ (i 0).val = 0 ∧ (i 1).val = 1 := by
  rw [Rect.mem_set_unit]
  have h2 : (i 2).val < 256 := (i 2).isLt
  constructor
  · intro h
    have h0 : 0 ≤ (i 0).val ∧ (i 0).val < 0 + 1 := h 0
    have h1 : 1 ≤ (i 1).val ∧ (i 1).val < 1 + 1 := h 1
    omega
  · intro h a
    fin_cases a
    · show 0 ≤ (i 0).val ∧ (i 0).val < 0 + 1
      omega
    · show 1 ≤ (i 1).val ∧ (i 1).val < 1 + 1
      omega
    · show 0 ≤ (i 2).val ∧ (i 2).val < 0 + 256
      omega

theorem access_set (r : Rect S4x2x256) : (bufM.access r : View sig .tc _ _ _).set = r.set := View.set_slice_whole _ _

theorem row0_sub : (bufM.access rowRect0 : View sig .tc _ _ _).set ⊆ slotSet 0 := by
  rw [access_set]; exact fun i hi => mem_slotSet.mpr (mem_rowRect0.mp hi).1
theorem row1_sub : (bufM.access rowRect1 : View sig .tc _ _ _).set ⊆ slotSet 0 := by
  rw [access_set]; exact fun i hi => mem_slotSet.mpr (mem_rowRect1.mp hi).1

/-- Storing the two rows makes slot `0` the device's own message. -/
theorem stored (c : Dev nD) (f : (cc0_scratch0 : Ref sig .tc).ty.Contents (Elt F)) (i : S4x2x256.Idx) (hi : i ∈ slotSet 0) :
    (bufM.access rowRect1 : View sig .tc _ _ _).write (Elt F)
      ((bufM.access rowRect0 : View sig .tc _ _ _).write (Elt F) f (sumRow m c) Finset.univ) (labRow m c) Finset.univ i = comm m c i := by
  rw [comm_at m c hi, srcOf_zero]
  have h0 := mem_slotSet.mp hi
  have hlt : (i 1).val < 2 := (i 1).isLt
  have hx : ∀ x : S1x1x256.Idx, x = ix3 0 0 (x 2) := fun x => by
    have e0 : x 0 = (0 : Fin 1) := Fin.ext (Nat.lt_one_iff.mp (x 0).isLt)
    have e1 : x 1 = (0 : Fin 1) := Fin.ext (Nat.lt_one_iff.mp (x 1).isLt)
    exact (eq_ix3 x).trans (by rw [e0, e1]; rfl)
  by_cases h : (i 1).val = 0
  · have hn : i ∉ (bufM.access rowRect1 : View sig .tc _ _ _).setOn Finset.univ := by
      rw [View.setOn_univ, access_set, mem_rowRect1]; omega
    rw [View.write_of_not_mem _ _ _ hn]
    have hm : i ∈ (bufM.access rowRect0 : View sig .tc _ _ _).set := by
      rw [access_set, mem_rowRect0]; exact ⟨h0, h⟩
    obtain ⟨x, -, rfl⟩ := Finset.mem_map.mp hm
    rw [View.write_emb_of_mem _ _ (Finset.mem_univ x)]
    unfold own
    rw [if_pos h]
    show sumRow m c x = _
    conv_lhs => rw [hx x]
    congr 2
    exact Fin.ext (by show (x 2).val = 0 + 1 * (x 2).val; omega)
  · have hm : i ∈ (bufM.access rowRect1 : View sig .tc _ _ _).set := by
      rw [access_set, mem_rowRect1]; omega
    obtain ⟨x, -, rfl⟩ := Finset.mem_map.mp hm
    rw [View.write_emb_of_mem _ _ (Finset.mem_univ x)]
    unfold own
    rw [if_neg h]
    show labRow m c x = _
    conv_lhs => rw [hx x]
    congr 2
    exact Fin.ext (by show (x 2).val = 0 + 1 * (x 2).val; omega)

end Cert.Xent

end
-- ==== Proof.Proto.lean ====
/-
# The exchange protocol

Every device signals the other three on the barrier semaphore, waits for their three signals, and then copies its own
message to each of them. This module states that protocol as a schedule of rounds: a barrier cell has three duties of one
unit, duty `d` of device `p` paid by the device `d + 1` places after `p`, which hands over the slot `p`'s copy number `d`
is going to write; a send cell one duty, returning the third of slot `0` the copy read; a receive cell one duty, bringing
the slot with the sender's message in it. Beside it: what a device owes at the start and may wait on, and the proof data.
-/
module

public import proofs.«01_k».proof.Proof.Slots

@[expose] public section

noncomputable section

namespace Cert.Xent

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds pointsTo_blocks)
open Idealize.ShloMosaic.Pipeline (Dat Cfg Window BodyObligation cellOf)

variable {F : FTy → Type} [FloatOps F]

/-- The resources: the pipeline's rounds and the exchange's, the latter with three duty names. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The semaphores and their roles -/

abbrev barS : Sem sig := (SemArray.scalar (sig.barrier 0 rfl) : Sems sig S_).sem
/-- The completion semaphores of copy number `k` at its sender and at its receiver. -/
abbrev sndS (k : Fin 3) : DmaSem sig := ⟨k.val + 4, Nat.lt_of_lt_of_le (Nat.add_lt_add_right k.isLt 4) (by decide)⟩
abbrev rcvS (k : Fin 3) : DmaSem sig := ⟨k.val + 7, Nat.lt_of_lt_of_le (Nat.add_lt_add_right k.isLt 7) (by decide)⟩

theorem snd_0 : ((cc0_scratch1.slice (Rect.unit (s := S3) ![0] ![1] inb_S3_S1_0)).squeeze S_ squeezes_S1_S_).sem = sndS 0 := rfl
theorem snd_1 : ((cc0_scratch1.slice (Rect.unit (s := S3) ![1] ![1] inb_S3_S1_1)).squeeze S_ squeezes_S1_S_).sem = sndS 1 := rfl
theorem snd_2 : ((cc0_scratch1.slice (Rect.unit (s := S3) ![2] ![1] inb_S3_S1_2)).squeeze S_ squeezes_S1_S_).sem = sndS 2 := rfl
theorem rcv_0 : ((cc0_scratch2.slice (Rect.unit (s := S3) ![0] ![1] inb_S3_S1_0)).squeeze S_ squeezes_S1_S_).sem = rcvS 0 := rfl
theorem rcv_1 : ((cc0_scratch2.slice (Rect.unit (s := S3) ![1] ![1] inb_S3_S1_1)).squeeze S_ squeezes_S1_S_).sem = rcvS 1 := rfl
theorem rcv_2 : ((cc0_scratch2.slice (Rect.unit (s := S3) ![2] ![1] inb_S3_S1_2)).squeeze S_ squeezes_S1_S_).sem = rcvS 2 := rfl

/-- What a semaphore is for. -/
inductive Role where
  | bar | snd (k : Fin 3) | rcv (k : Fin 3) | none

def role : SemLoc sig → Role
  | .reg s => if s = barS then .bar else .none
  | .dma q => if q.val < 4 then .none else if q.val < 7 then .snd (Fin.ofNat 3 (q.val - 4)) else .rcv (Fin.ofNat 3 (q.val - 7))

theorem role_bar : role (.reg barS) = .bar := by rw [role, if_pos rfl]
theorem role_snd (k : Fin 3) : role (.dma (sndS k)) = .snd k := by fin_cases k <;> rfl
theorem role_rcv (k : Fin 3) : role (.dma (rcvS k)) = .rcv k := by fin_cases k <;> rfl

abbrev barCell (c : Dev nD) : GSem nD τ sig := ((c : Thread nD τ), .reg barS)
abbrev sndCell (k : Fin 3) (c : Dev nD) : GSem nD τ sig := ((c : Thread nD τ), .dma (sndS k))
abbrev rcvCell (k : Fin 3) (c : Dev nD) : GSem nD τ sig := ((c : Thread nD τ), .dma (rcvS k))

/-- A device's own (scoped) semaphores: send `0,1,2`, receive `0,1,2`. -/
abbrev osem : Fin 6 → SemLoc sig := fun | 0 => .dma (sndS 0) | 1 => .dma (sndS 1) | 2 => .dma (sndS 2) | 3 => .dma (rcvS 0) | 4 => .dma (rcvS 1) | 5 => .dma (rcvS 2)
/-- All seven it takes part with: the barrier first. -/
abbrev csem : Fin 7 → SemLoc sig := fun | 0 => .reg barS | 1 => .dma (sndS 0) | 2 => .dma (sndS 1) | 3 => .dma (sndS 2) | 4 => .dma (rcvS 0) | 5 => .dma (rcvS 1) | 6 => .dma (rcvS 2)
abbrev kcell (ck : Dev nD × Fin 7) : GSem nD τ sig := ((ck.1 : Thread nD τ), csem ck.2)
/-- The places of the send and receive cells in that list. -/
abbrev sIx (k : Fin 3) : Fin 7 := ⟨k.val + 1, by omega⟩
abbrev rIx (k : Fin 3) : Fin 7 := ⟨k.val + 4, by omega⟩
theorem kcell_snd (c : Dev nD) (k : Fin 3) : kcell (c, sIx k) = sndCell k c := by fin_cases k <;> rfl
theorem kcell_rcv (c : Dev nD) (k : Fin 3) : kcell (c, rIx k) = rcvCell k c := by fin_cases k <;> rfl

/-- The credit of one copy: the same for every slot. -/
abbrev N : ℕ := (slotM 0).view.dmaCredit
theorem N_pos : 0 < N := View.dmaCredit_pos _ (by decide)
theorem credit_slot (s : Fin 4) : (slotM s).view.dmaCredit = N := by fin_cases s <;> rfl

/-! ## The schedule -/

/-- The elements of slot `s` of device `c`'s exchange buffer at share `q` of contents `f`. -/
def slotPts (q : PosShare TreeShare) (s : Fin 4) (c : Dev nD) (f : Buf (Elt F) ((c : Thread nD τ).loc cc0_scratch0)) : sProp 𝕄 :=
  ((c : Thread nD τ).loc cc0_scratch0) ↦[slotSet s]{q} f

omit [FloatOps F] in
instance slotPts_storable (q) (s : Fin 4) (c : Dev nD) (f) : BI.Storable (upEmb : UEmb _ 𝕄) (slotPts (F := F) q s c f) := by unfold slotPts; infer_instance

/-- What the signal of the device `d + 1` places after `c` hands `c`: that device's slot `d + 1`, and that its receive cell
    of copy `d` is at its first round. -/
def barPay (c : Dev nD) (d : Fin 3) : sProp 𝕄 := iprop((∃ f, slotPts fullShare d.succ (fwd d c) f) ∗ reached ER (rcvCell d (fwd d c)) 0)

def dutiesOf : Role → Finset (Fin 3)
  | .bar => Finset.univ | .snd _ => {0} | .rcv _ => {0} | .none => ∅
def unitsOf : Role → ℕ
  | .bar => 1 | _ => N
def payOf (c : Dev nD) (d : Fin 3) : Role → sProp 𝕄
  | .bar => barPay c d
  | .snd k => slotPts (shares3 fullShare k) 0 c (comm m c)
  | .rcv k => slotPts fullShare k.succ c (comm m c)
  | .none => iprop(emp)

def sched : Rounds.Schedule (GSem nD τ sig) (Fin 3) 𝕄 where
  duties g r := if r = 0 ∧ g.1.2 = .tc then dutiesOf (role g.2) else ∅
  unitless _ := False
  amount g _ _ := unitsOf (role g.2)
  payload g _ d := payOf m g.1.1 d (role g.2)
  amount_pos g _ _ _ := by
    cases role g.2 <;> first | exact Nat.one_pos | exact N_pos

instance sched_payload_storable (g : GSem nD τ sig) (r : ℕ) (d : Fin 3) :
    BI.Storable (upEmb : UEmb _ 𝕄) ((sched (F := F) m).payload g r d) := by
  show BI.Storable upEmb (payOf m g.1.1 d (role g.2))
  unfold payOf barPay
  cases role g.2 <;> infer_instance

section Sched
variable (c : Dev nD) (k : Fin 3)

theorem duties_at (sm : SemLoc sig) : (sched (F := F) m).duties ((c : Thread nD τ), sm) 0 = dutiesOf (role sm) := by
  dsimp only [sched]; exact if_pos ⟨rfl, rfl⟩
theorem duties_bar : (sched (F := F) m).duties (barCell c) 0 = Finset.univ := (duties_at m c _).trans (by rw [role_bar]; rfl)
theorem duties_snd : (sched (F := F) m).duties (sndCell k c) 0 = {0} := (duties_at m c _).trans (by rw [role_snd]; rfl)
theorem duties_rcv : (sched (F := F) m).duties (rcvCell k c) 0 = {0} := (duties_at m c _).trans (by rw [role_rcv]; rfl)
theorem duties_later (g : GSem nD τ sig) : ∀ r, 1 ≤ r → (sched (F := F) m).duties g r = ∅ :=
  fun r hr => by dsimp only [sched]; exact if_neg fun h => by omega

theorem amount_bar (d : Fin 3) : (sched (F := F) m).amount (barCell c) 0 d = 1 := by
  dsimp only [sched]; rw [role_bar]; rfl
theorem amount_snd (d : Fin 3) : (sched (F := F) m).amount (sndCell k c) 0 d = N := by
  dsimp only [sched]; rw [role_snd]; rfl
theorem amount_rcv (d : Fin 3) : (sched (F := F) m).amount (rcvCell k c) 0 d = N := by
  dsimp only [sched]; rw [role_rcv]; rfl

theorem payload_bar (d : Fin 3) : (sched (F := F) m).payload (barCell c) 0 d = barPay c d := by
  dsimp only [sched]; rw [role_bar]; rfl
theorem payload_snd (d : Fin 3) : (sched (F := F) m).payload (sndCell k c) 0 d = slotPts (shares3 fullShare k) 0 c (comm m c) := by
  dsimp only [sched]; rw [role_snd]; rfl
theorem payload_rcv (d : Fin 3) : (sched (F := F) m).payload (rcvCell k c) 0 d = slotPts fullShare k.succ c (comm m c) := by
  dsimp only [sched]; rw [role_rcv]; rfl

theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
/-- A cell with the one duty `0` of a copy's credit: what its round expects, and what remains of it when nothing is taken. -/
theorem expect_one {g : GSem nD τ sig} (hd : (sched (F := F) m).duties g 0 = {0}) (ha : (sched (F := F) m).amount g 0 0 = N) :
    (sched (F := F) m).expect g 0 = N := by
  unfold Schedule.expect Schedule.amountOf; rw [hd, Finset.sum_singleton, ha]
theorem rest_one {g : GSem nD τ sig} (hd : (sched (F := F) m).duties g 0 = {0}) :
    bigSep ((sched (F := F) m).duties g 0 \ ∅) (fun d => (sched (F := F) m).payload g 0 d) = (sched (F := F) m).payload g 0 0 := by
  rw [Finset.sdiff_empty, hd, bigSep_singleton]

theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_fin3, payload_bar, payload_bar, payload_bar]

/-- The whole exchange buffer is its four slots; -/
theorem buf_slots (f : Buf (Elt F) ((c : Thread nD τ).loc cc0_scratch0)) :
    (((c : Thread nD τ).loc cc0_scratch0) ↦{fullShare} f : sProp 𝕄)
      = iprop(slotPts fullShare 0 c f ∗ slotPts fullShare 1 c f ∗ slotPts fullShare 2 c f ∗ slotPts fullShare 3 c f) := by
  rw [← bigSep_fin4 (fun s => slotPts fullShare s c f)]
  exact pointsTo_blocks (ℓ := (c : Thread nD τ).loc cc0_scratch0) slotSet slots_disjoint slots_cover f
/-- and slot `0` whole its three thirds, one for each copy that reads it. -/
theorem slot_thirds (f : Buf (Elt F) ((c : Thread nD τ).loc cc0_scratch0)) :
    (slotPts fullShare 0 c f : sProp 𝕄)
      ⊣⊢ iprop(slotPts (shares3 fullShare 0) 0 c f ∗ slotPts (shares3 fullShare 1) 0 c f ∗ slotPts (shares3 fullShare 2) 0 c f) :=
  pointsTo_thirds fullShare f

end Sched

/-! ## What a device owes at the start; the levels -/

/-- Device `c` owes the receivers of its three copies their credit and the other three barrier cells a unit each, summed in
    the order in which it pays: signals first, then copies. -/
def O₅ (c : Dev nD) : CellTallies nD τ sig Unit := tallyAt (rcvCell 2 (fwd 2 c)) () N
def O₄ (c : Dev nD) : CellTallies nD τ sig Unit := O₅ c + tallyAt (rcvCell 1 (fwd 1 c)) () N
def O₃ (c : Dev nD) : CellTallies nD τ sig Unit := O₄ c + tallyAt (rcvCell 0 (fwd 0 c)) () N
def O₂ (c : Dev nD) : CellTallies nD τ sig Unit := O₃ c + tallyAt (barCell (fwd 2 c)) () 1
def O₁ (c : Dev nD) : CellTallies nD τ sig Unit := O₂ c + tallyAt (barCell (fwd 1 c)) () 1
def O₀ (c : Dev nD) : CellTallies nD τ sig Unit := O₁ c + tallyAt (barCell (fwd 0 c)) () 1

def L (g : GSem nD τ sig) : Finset Unit := if g.1.2 = .tc then {()} else ∅
def level : Role → ℕ
  | .bar => 1 | .rcv _ => 2 | _ => 0
/-- Barrier cells at `1`, receive cells at `2`, everything else at `0`. -/
def lv (g : GSem nD τ sig) (_ : Unit) : ℕ := level (role g.2)

theorem L_of_ne (g : GSem nD τ sig) (h : g.1.2 ≠ .tc) : L g = ∅ := if_neg h
theorem L_tc (c : Dev nD) (sm : SemLoc sig) : L ((c : Thread nD τ), sm) = {()} := if_pos rfl

theorem O₃_apply (c : Dev nD) (g : GSem nD τ sig) : O₃ c g () = (if g = rcvCell 2 (fwd 2 c) then N else 0)
    + (if g = rcvCell 1 (fwd 1 c) then N else 0) + (if g = rcvCell 0 (fwd 0 c) then N else 0) := by
  unfold O₃ O₄ O₅
  simp only [Pi.add_apply, Finsupp.add_apply, tallyAt_apply, and_true]
theorem O₀_apply (c : Dev nD) (g : GSem nD τ sig) : O₀ c g () = O₃ c g () + (if g = barCell (fwd 2 c) then 1 else 0)
    + (if g = barCell (fwd 1 c) then 1 else 0) + (if g = barCell (fwd 0 c) then 1 else 0) := by
  unfold O₀ O₁ O₂
  simp only [Pi.add_apply, Finsupp.add_apply, tallyAt_apply, and_true]

theorem O₃_pos {c : Dev nD} {g : GSem nD τ sig} {u : Unit} (h : 0 < O₃ c g u) : ∃ k, g = rcvCell k (fwd k c) := by
  rw [O₃_apply] at h
  by_contra hn
  rw [not_exists] at hn
  rw [if_neg (hn 0), if_neg (hn 1), if_neg (hn 2)] at h
  exact Nat.lt_irrefl 0 h
theorem O₀_pos {c : Dev nD} {g : GSem nD τ sig} {u : Unit} (h : 0 < O₀ c g u) : ∃ k, g = rcvCell k (fwd k c) ∨ g = barCell (fwd k c) := by
  rw [O₀_apply] at h
  by_contra hn
  simp only [not_exists, not_or] at hn
  rw [if_neg (hn 0).2, if_neg (hn 1).2, if_neg (hn 2).2] at h
  obtain ⟨k, hk⟩ := O₃_pos (c := c) (g := g) (u := ()) h
  exact (hn k).1 hk

/-- What a device owes at the start lies above the staging semaphores, which have no role in the exchange; -/
theorem mayWait_stage (c : Dev nD) (q : DmaSem sig) (hq : level (role (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨k, rfl | rfl⟩ := O₀_pos hg <;> exact Finset.mem_singleton_self _)
      (fun p hp => by rw [Finset.mem_singleton.mp hp]; exact Nat.le_of_eq hq)
      (fun g u hg => by
        obtain ⟨k, rfl | rfl⟩ := O₀_pos hg <;> dsimp only [lv]
        · rw [role_rcv]; exact Nat.lt_of_sub_eq_succ rfl
        · rw [role_bar]; decide)
  · rw [MayWait_zero]; iintro -; iempintro

/-- and when it waits on its barrier cell it owes receive cells only, which lie above. -/
theorem mayWait_bar (c : Dev nD) : (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by obtain ⟨k, rfl⟩ := O₃_pos hg; exact Finset.mem_singleton_self _)
    (fun p hp => by rw [Finset.mem_singleton.mp hp]; dsimp only [lv]; rw [role_bar]; decide)
    (fun g u hg => by obtain ⟨k, rfl⟩ := O₃_pos hg; dsimp only [lv]; rw [role_rcv]; exact Nat.lt_of_sub_eq_succ rfl)

/-! ## The proof data -/

/-- The kernel's result on device `c`: the logarithm of the sum of the four sums, less the sum of the four picked logits. -/
def outAt (c : Dev nD) : (cc0_stg3_0 : Ref sig .tc).ty.Contents (Elt F) :=
  k0_pay1 (bufM.view.readAt (Elt F) (Rect.unit (s := S4x2x256) ![0, 0, 0] S4x1x256.size inb_S4x2x256_S4x1x256_0_0_0).toLoadRect (comm m c))
    (bufM.view.readAt (Elt F) (Rect.unit (s := S4x2x256) ![0, 1, 0] S4x1x256.size inb_S4x2x256_S4x1x256_0_1_0).toLoadRect (comm m c))

/-- Every cell's invariant at its name, and that every cell has reached its first round. -/
def records (K : Dev nD × Fin 7 → ℕ) : sProp 𝕄 :=
  iprop((bigSep Finset.univ fun ck : Dev nD × Fin 7 => cellInv ER (sched m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) : records m K ⊢ cellInv ER (sched m) (K ck) (kcell ck) := by
  unfold records
  exact sep_elim_left.trans (bigSep_elim (Φ := fun ck : Dev nD × Fin 7 => (cellInv ER (sched m) (K ck) (kcell ck) : sProp 𝕄)) (Finset.mem_univ ck))
theorem reached_at (K : Dev nD × Fin 7 → ℕ) (ck : Dev nD × Fin 7) : records m K ⊢ reached ER (kcell ck) 0 := by
  unfold records
  exact sep_elim_right.trans (bigSep_elim (Φ := fun ck : Dev nD × Fin 7 => (reached ER (kcell ck) 0 : sProp 𝕄)) (Finset.mem_univ ck))

/-- The tokens of the duties device `c` pays: of each of the other three barriers, of its three send cells, of the receive
    cells its copies address. -/
def payToks (c : Dev nD) : sProp 𝕄 :=
  bigSep Finset.univ fun k : Fin 3 => iprop(dutyTok ER (barCell (fwd k c)) 0 (Fin.rev k) ∗ dutyTok ER (sndCell k c) 0 0 ∗ dutyTok ER (rcvCell k (fwd k c)) 0 0)

/-- What device `c`'s body starts from, beside its credit and the level facts. -/
def ghost (K : Dev nD × Fin 7 → ℕ) (c : Dev nD) : sProp 𝕄 :=
  iprop(records m K ∗ (bigSep Finset.univ fun i : Fin 7 => atPos ER (kcell (c, i)) 0 ∅ 0) ∗ payToks c)

def start (c : Dev nD) : sProp 𝕄 :=
  iprop((∃ K, ghost m K c) ∗ (cred (tallyAt (barCell c) () 3) ∗ cred (tallyAt (rcvCell 0 c) () N) ∗ cred (tallyAt (rcvCell 1 c) () N) ∗ cred (tallyAt (rcvCell 2 c) () N)) ∗ levAts L lv)

def Φ₀ (c : Dev nD) : sProp 𝕄 := iprop(start m c ∗ ∃ f, (((c : Thread nD τ).loc cc0_scratch0) ↦{fullShare} f))
/-- After the body: the exchange buffer with every message in it, and all seven counters at zero. -/
def Φ₁ (c : Dev nD) : sProp 𝕄 :=
  iprop((((c : Thread nD τ).loc cc0_scratch0) ↦{fullShare} comm m c) ∗ bigSep Finset.univ fun i : Fin 7 => semVal (kcell (c, i)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => lstg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

def t₀ : Fin cfg0.N := t0_0
theorem fin_N (t : Fin cfg0.N) : t = t₀ := fin_N0 t

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Xent

end
-- ==== Proof.Rules.lean ====
/-
# The exchange, effect by effect

One rule per kind of effect, for any copy number `k`: a signal to another device's barrier, the wait on the own barrier, a
copy of slot `0` to another device, a wait on a send or receive semaphore, the closing of a cell.
-/
module

public import proofs.«01_k».proof.Proof.Proto

@[expose] public section

noncomputable section

namespace Cert.Xent

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds pointsTo_blocks)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 7 → ℕ) (c : Dev nD) (k : Fin 3)

theorem inv_bar : records m K ⊢ cellInv ER (sched m) (K (c, 0)) (barCell c) := inv_at m K (c, 0)
theorem inv_snd : records m K ⊢ cellInv ER (sched m) (K (c, sIx k)) (sndCell k c) := by rw [← kcell_snd]; exact inv_at m K (c, sIx k)
theorem inv_rcv : records m K ⊢ cellInv ER (sched m) (K (c, rIx k)) (rcvCell k c) := by rw [← kcell_rcv]; exact inv_at m K (c, rIx k)
theorem reached_bar : records m K ⊢ reached ER (barCell c) 0 := reached_at m K (c, 0)
theorem reached_snd : records m K ⊢ reached ER (sndCell k c) 0 := by rw [← kcell_snd]; exact reached_at m K (c, sIx k)
theorem reached_rcv : records m K ⊢ reached ER (rcvCell k c) 0 := by rw [← kcell_rcv]; exact reached_at m K (c, rIx k)

theorem slotPts_view (q : PosShare TreeShare) (s : Fin 4) (f : Buf (Elt F) ((c : Thread nD τ).loc cc0_scratch0)) :
    ((slotM s).view.loc (c : Thread nD τ) ↦[(slotM s).view.set]{q} f : sProp 𝕄) = slotPts q s c f := by
  unfold slotPts
  exact congrArg (fun I : Finset S4x2x256.Idx => (((c : Thread nD τ).loc cc0_scratch0) ↦[I]{q} f : sProp 𝕄)) (slotM_set s)

/-- The signal to the device `k + 1` places after `c` pays that device's duty `rev k` — `c` lies `rev k + 1` places after
    it — and hands over `c`'s slot `rev k + 1`. -/
theorem signal_rule {α : Type} {Kt : α → sProp 𝕄} {kk : PUnit → Prog (TpuEff nD τ sig (Elt F) Λ₀ .tc) α} {W : Waits sig Unit}
    (O O' : CellTallies nD τ sig Unit) (hO : O = O' + tallyAt (barCell (fwd k c)) () 1) (s : Fin 4) (hs : s = (Fin.rev k).succ)
    (f : Buf (Elt F) ((c : Thread nD τ).loc cc0_scratch0)) :
    iprop(records m K ∗ owes (c : Thread nD τ) O W ∗ dutyTok ER (barCell (fwd k c)) 0 (Fin.rev k) ∗ slotPts fullShare s c f)
      ⊢ iprop((owes (c : Thread nD τ) O' W -∗ wp frame (wpE (defs₀ (F := F)) 𝒱₀ (c : Thread nD τ) none) Set.univ (kk ⟨⟩) Kt)
          -∗ wp frame (wpE (defs₀ (F := F)) 𝒱₀ (c : Thread nD τ) none) Set.univ (.op (.semSignal ((fwd k c : Thread nD τ)) barS (1 : ℕ)) kk) Kt) := by
  subst hs
  iintro ⟨#HR, HO, Htok, Hs⟩
  iapply (Rounds.wp_signal 𝒱₀ ER (sched m) (c : Thread nD τ) none (dst := (fwd k c : Thread nD τ)) (κ := K (fwd k c, 0))
      (d := Fin.rev k) (by rw [duties_bar]; exact Finset.mem_univ _) (amount_bar m (fwd k c) (Fin.rev k)) () O' hO)
  isplitr; · iapply (inv_bar m K (fwd k c)); iexact HR
  isplitl [HO]; · iexact HO
  isplitl [Htok]; · iexact Htok
  isplitl [Hs]
  · rw [payload_bar]; unfold barPay; rw [fwd_rev]
    isplitl [Hs]; · iexists f; iexact Hs
    iapply (reached_rcv m K c (Fin.rev k)); iexact HR
  iapply (reached_bar m K (fwd k c)); iexact HR

/-- The wait for all three signals brings the three slots the copies will write. -/
theorem bar_rule {α : Type} {Kt : α → sProp 𝕄} {kk : PUnit → Prog (TpuEff nD τ sig (Elt F) Λ₀ .tc) α} {W : Waits sig Unit} :
    iprop(records m K ∗ levAts L lv ∗ cred (tallyAt (barCell c) () 3) ∗ owes (c : Thread nD τ) (O₃ c) W ∗ atPos ER (barCell c) 0 ∅ 0)
      ⊢ iprop(((owes (c : Thread nD τ) (O₃ c) (insert (SemLoc.reg barS, ()) W) ∗ atPos ER (barCell c) (0 + 1) ∅ 0 ∗ barPay c 0 ∗ barPay c 1 ∗ barPay c 2)
            -∗ wp frame (wpE (defs₀ (F := F)) 𝒱₀ (c : Thread nD τ) none) Set.univ (kk ⟨⟩) Kt)
          -∗ wp frame (wpE (defs₀ (F := F)) 𝒱₀ (c : Thread nD τ) none) Set.univ (.op (.semWait barS (3 : ℕ)) kk) Kt) := by
  iintro ⟨#HR, #Hlev, Hc, HO, Hat⟩ Hk
  iapply (Rounds.wp_wait_rest_token 𝒱₀ ER (sched m) (c : Thread nD τ) none (κ := K (c, 0))
      (wpE_semWait_eq 𝒱₀ (c : Thread nD τ) none Set.univ) (Set.mem_univ _) () (O := O₃ c) (W := W) (R := 0) (m := 0) (T := ∅)
      (by rw [expect_bar])) $$ [Hc HO Hat]
  · isplitr; · iapply (inv_bar m K c); iexact HR
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar m c)); iexact Hpay

/-- Copy number `k`: slot `0`, held at its part of the share and containing `c`'s message, goes to slot `k + 1` of the
    device `k + 1` places after. -/
theorem send_rule {α : Type} {Kt : α → sProp 𝕄} {kk : PUnit → Prog (TpuEff nD τ sig (Elt F) Λ₀ .tc) α} {W : Waits sig Unit}
    (n : Dev nD) (hn : n = fwd k c) (s : Fin 4) (hs : s = k.succ)
    {hsc : (slotM s).view.ref.isScScratch = false} {hsrc : (slotM 0).view.WordExact} {hdst : (slotM s).view.WordExact}
    {hsem : DmaTarget.Typed .vmem (.dma (rcvS k)) (.remote (Dev.tc n : Thread nD τ) (slotM s) (.dma (sndS k)) hsc)}
    (fn : Buf (Elt F) ((fwd k c : Thread nD τ).loc cc0_scratch0)) (O O' : CellTallies nD τ sig Unit) (hO : O = O' + tallyAt (rcvCell k (fwd k c)) () N) :
    iprop(records m K ∗ slotPts (shares3 fullShare k) 0 c (comm m c) ∗ slotPts fullShare k.succ (fwd k c) fn
        ∗ owes (c : Thread nD τ) O W ∗ dutyTok ER (sndCell k c) 0 0 ∗ dutyTok ER (rcvCell k (fwd k c)) 0 0)
      ⊢ iprop(((cred (tallyAt (sndCell k c) () N) ∗ owes (c : Thread nD τ) O' W) -∗ wp frame (wpE (defs₀ (F := F)) 𝒱₀ (c : Thread nD τ) none) Set.univ (kk ⟨⟩) Kt)
          -∗ wp frame (wpE (defs₀ (F := F)) 𝒱₀ (c : Thread nD τ) none) Set.univ
              (.op (.enqueueDma (slotM 0) (.remote (Dev.tc n : Thread nD τ) (slotM s) (.dma (sndS k)) hsc) (.dma (rcvS k)) hsrc hdst hsem) kk) Kt) := by
  subst hn hs
  rw [← slotPts_view, ← slotPts_view]
  iintro ⟨#HR, Hs, Hd, HO, HtS, HtR⟩
  iapply (Rounds.wp_send_pointsTo 𝒱₀ ER (sched m) (c : Thread nD τ) none (κ₁ := K (c, sIx k)) (κ₂ := K (fwd k c, rIx k))
    (r₁ := 0) (r₂ := 0) (d₁ := 0) (d₂ := 0) (fd := fn)
    (by rw [duties_snd]; exact Finset.mem_singleton_self _) (by rw [duties_rcv]; exact Finset.mem_singleton_self _)
    () () N (show (slotM k.succ).view.amount (.dma (rcvS k)) = N from credit_slot k.succ) (amount_snd m c k 0) (amount_rcv m (fwd k c) k 0) O' hO (W := W)
    (by rw [payload_snd, slotPts_view])
    (by
      rw [payload_rcv, slotPts_view]
      exact Entails.of_eq (pointsTo_congr fun i hi => (landed m c k.succ fn i hi).trans (comm_fwd m c k i hi).symm)))
  isplitr; · iapply (inv_snd m K c k); iexact HR
  isplitr; · iapply (inv_rcv m K (fwd k c) k); iexact HR
  isplitl [Hs]; · iexact Hs
  isplitl [Hd]; · iexact Hd
  isplitl [HO]; · iexact HO
  isplitl [HtS]; · iexact HtS
  isplitr; · iapply (reached_snd m K c k); iexact HR
  isplitl [HtR]; · iexact HtR
  iapply (reached_rcv m K (fwd k c) k); iexact HR

/-- A wait on a cell of one copy's credit, nothing owed: the payload comes. -/
theorem wait_rule {α : Type} {Kt : α → sProp 𝕄} {kk : PUnit → Prog (TpuEff nD τ sig (Elt F) Λ₀ .tc) α} {W : Waits sig Unit}
    (q : DmaSem sig) (hd : (sched (F := F) m).duties ((c : Thread nD τ), .dma q) 0 = {0})
    (ha : (sched (F := F) m).amount ((c : Thread nD τ), .dma q) 0 0 = N) (κ : ℕ) (s s' : Fin 4) {hsrc : (slotM s).view.WordExact} {hdst : (slotM s').view.WordExact} :
    iprop(cellInv ER (sched m) κ ((c : Thread nD τ), .dma q) ∗ cred (tallyAt ((c : Thread nD τ), SemLoc.dma q) () N) ∗ owes (c : Thread nD τ) 0 W
        ∗ atPos ER ((c : Thread nD τ), .dma q) 0 ∅ 0)
      ⊢ iprop(((owes (c : Thread nD τ) 0 (insert (SemLoc.dma q, ()) W) ∗ atPos ER ((c : Thread nD τ), .dma q) (0 + 1) ∅ 0
            ∗ (sched (F := F) m).payload ((c : Thread nD τ), .dma q) 0 0) -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 q (slotM s) (slotM s') hsrc hdst) kk) Kt) := by
  iintro ⟨#HI, Hc, HO, Hat⟩ Hk
  iapply (Rounds.wp_wait_rest_token 𝒱₀ ER (sched m) (c : Thread nD τ) none (κ := κ)
      (wpE_waitDma2_eq 𝒱₀ (c : Thread nD τ) none Set.univ) (Set.mem_univ _) () (O := 0) (W := W) (R := 0) (m := 0) (T := ∅)
      (by rw [Nat.zero_add, credit_slot, expect_one m hd ha])) $$ [Hc HO Hat]
  · isplitr; · iexact HI
    isplitl [Hc]; · iapply (Entails.of_eq (by rw [credit_slot])); iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_one m hd)); iexact Hpay

/-- The wait on the send semaphore of copy `k`: its part of slot `0` comes back. -/
theorem wait_snd_rule {α : Type} {Kt : α → sProp 𝕄} {kk : PUnit → Prog (TpuEff nD τ sig (Elt F) Λ₀ .tc) α} {W : Waits sig Unit}
    (s s' : Fin 4) {hsrc : (slotM s).view.WordExact} {hdst : (slotM s').view.WordExact} :
    iprop(records m K ∗ cred (tallyAt (sndCell k c) () N) ∗ owes (c : Thread nD τ) 0 W ∗ atPos ER (sndCell k c) 0 ∅ 0)
      ⊢ iprop(((owes (c : Thread nD τ) 0 (insert (SemLoc.dma (sndS k), ()) W) ∗ atPos ER (sndCell k c) (0 + 1) ∅ 0
            ∗ slotPts (shares3 fullShare k) 0 c (comm m c)) -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 (sndS k) (slotM s) (slotM s') hsrc hdst) kk) Kt) := by
  have h := wait_rule m c (Kt := Kt) (kk := kk) (W := W) (sndS k) (duties_snd m c k) (amount_snd m c k 0) (K (c, sIx k)) s s' (hsrc := hsrc) (hdst := hdst)
  rw [payload_snd] at h
  exact (sep_mono_left (inv_snd m K c k)).trans h

/-- The wait on the receive semaphore of copy `k`: slot `k + 1` comes with the message of the device `k + 1` places before. -/
theorem wait_rcv_rule {α : Type} {Kt : α → sProp 𝕄} {kk : PUnit → Prog (TpuEff nD τ sig (Elt F) Λ₀ .tc) α} {W : Waits sig Unit}
    (s s' : Fin 4) {hsrc : (slotM s).view.WordExact} {hdst : (slotM s').view.WordExact} :
    iprop(records m K ∗ cred (tallyAt (rcvCell k c) () N) ∗ owes (c : Thread nD τ) 0 W ∗ atPos ER (rcvCell k c) 0 ∅ 0)
      ⊢ iprop(((owes (c : Thread nD τ) 0 (insert (SemLoc.dma (rcvS k), ()) W) ∗ atPos ER (rcvCell k c) (0 + 1) ∅ 0
            ∗ slotPts fullShare k.succ c (comm m c)) -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 (rcvS k) (slotM s) (slotM s') hsrc hdst) kk) Kt) := by
  have h := wait_rule m c (Kt := Kt) (kk := kk) (W := W) (rcvS k) (duties_rcv m c k) (amount_rcv m c k 0) (K (c, rIx k)) s s' (hsrc := hsrc) (hdst := hdst)
  rw [payload_rcv] at h
  exact (sep_mono_left (inv_rcv m K c k)).trans h

/-- After its one round a cell closes: its counter at zero is the core's again. All seven at once. -/
theorem close_cells :
    iprop(records m K ∗ bigSep Finset.univ fun i : Fin 7 => atPos ER (kcell (c, i)) (0 + 1) ∅ 0)
      ⊢ (|={Set.univ}=> bigSep Finset.univ fun i : Fin 7 => semVal (kcell (c, i)) 0 : sProp 𝕄) := by
  refine (sep_mono_left (BI.bigSep_of_persistent (Finset.univ : Finset (Fin 7)) (records m K))).trans ?_
  rw [← bigSep_sep']
  refine BIBase.Entails.trans (bigSep_mono (s := (Finset.univ : Finset (Fin 7))) (Ψ := fun i : Fin 7 => iprop(|={Set.univ}=> semVal (kcell (c, i)) 0)) ?_) (bigSep_fupd _ _)
  exact fun i _ => (sep_mono_left (inv_at m K (c, i))).trans
    (Rounds.cell_close ER (sched m) (Set.mem_univ (K (c, i))) (fun h => h) (R := 0 + 1) (duties_later m (kcell (c, i))))

end Cert.Xent

end
-- ==== Proof.Body.lean ====
/-
# The body of the kernel

The kernel's body executed from what a device starts with to what it ends with: the result's staging buffer at `outAt`, the
inputs' staging buffers unchanged, the exchange buffer full, every counter of the exchange at zero.
-/
module

public import proofs.«01_k».proof.Proof.Rules

@[expose] public section

noncomputable section

namespace Cert.Xent

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds pointsTo_blocks)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The loads and the store of whole staging buffers -/

theorem off2_zero : (![0, 0] : Fin 2 → Nat) = fun _ => 0 := funext fun a => by fin_cases a <;> rfl
theorem off1_zero : (![0] : Fin 1 → Nat) = fun _ => 0 := funext fun a => by fin_cases a; rfl

abbrev rX : Rect S256x512 := Rect.unit (s := S256x512) ![0, 0] S256x512.size inb_S256x512_S256x512_0_0
abbrev rW : Rect S512x4096 := Rect.unit (s := S512x4096) ![0, 0] S512x4096.size inb_S512x4096_S512x4096_0_0
abbrev rL : Rect S256 := Rect.unit (s := S256) ![0] S256.size inb_S256_S256_0

theorem read_x (f : (cc0_stg0_0 : Ref sig .tc).ty.Contents (Elt F)) :
    (Memref.whole cc0_stg0_0 : Memref sig .tc .vmem S256x512 .f32).view.readAt (Elt F) rX.toLoadRect f = f := Memref.readAt_unit_zero (Elt F) cc0_stg0_0 off2_zero _ f
theorem read_w (f : (cc0_stg1_0 : Ref sig .tc).ty.Contents (Elt F)) :
    (Memref.whole cc0_stg1_0 : Memref sig .tc .vmem S512x4096 .f32).view.readAt (Elt F) rW.toLoadRect f = f := Memref.readAt_unit_zero (Elt F) cc0_stg1_0 off2_zero _ f
theorem read_l (f : (cc0_stg2_0 : Ref sig .tc).ty.Contents (Elt F)) :
    (Memref.whole cc0_stg2_0 : Memref sig .tc .vmem S256 .i32).view.readAt (Elt F) rL.toLoadRect f = f := Memref.readAt_unit_zero (Elt F) cc0_stg2_0 off1_zero _ f
theorem write_out (f w : (cc0_stg3_0 : Ref sig .tc).ty.Contents (Elt F)) :
    ((Memref.whole cc0_stg3_0 : Memref sig .tc .vmem S256 .f32).access rL : View sig .tc _ _ _).write (Elt F) f w Finset.univ = w :=
  Memref.write_access_unit_zero_univ (Elt F) cc0_stg3_0 off1_zero _ f w

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

/-- A staging buffer of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body

variable (K : Dev nD × Fin 7 → ℕ)

def credits (c : Dev nD) : sProp 𝕄 :=
  iprop(cred (tallyAt (barCell c) () 3) ∗ cred (tallyAt (rcvCell 0 c) () N) ∗ cred (tallyAt (rcvCell 1 c) () N) ∗ cred (tallyAt (rcvCell 2 c) () N))

def bodyPre (c : Dev nD) : sProp 𝕄 :=
  iprop((ghost m K c ∗ credits c ∗ levAts L lv ∗ ∃ f, (((c : Thread nD τ).loc cc0_scratch0) ↦{fullShare} f))
    ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m c ∗ (dats m ρ 0 c).owesAt () t₀.succ ∗ stg c cc0_stg0_0 (xstg m c) ∗ stg c cc0_stg1_0 (wstg m c) ∗ stg c cc0_stg2_0 (lstg m c)
    ∗ stg c cc0_stg3_0 (outAt m c))

/-- After the two rows of the own message are stored, slot `0` contains what it will at the end. -/
theorem slot_stored (c : Dev nD) (f : Buf (Elt F) ((c : Thread nD τ).loc cc0_scratch0)) :
    ((((c : Thread nD τ).loc cc0_scratch0) ↦[slotSet 0]{fullShare} ((bufM.access rowRect1 : View sig .tc _ _ _).write (Elt F)
      ((bufM.access rowRect0 : View sig .tc _ _ _).write (Elt F) f (k0_pay5 (k0_pay3 (xstg m c) (wstg m c))) Finset.univ)
        (k0_pay6 (k0_pay2 (xstg m c) (wstg m c)) (iota .tc S256x4096 32 [1] iota_S256x4096_d1_w32) (k0_pay4 (F := F) c (lstg m c))) Finset.univ)) : sProp 𝕄)
      ⊢ slotPts fullShare 0 c (comm m c) := by
  unfold slotPts
  exact Entails.of_eq (pointsTo_congr fun i hi => stored m c f i hi)

set_option maxHeartbeats 1600000 in
/-- The body, executed one rule per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  simp only [snd_0, snd_1, snd_2, rcv_0, rcv_1, rcv_2]
  unfold bodyPre ghost credits payToks
  simp only [bigSep_fin3, bigSep_fin7]
  iintro ⟨⟨⟨⟨#HR, ⟨HatB, HatS0, HatS1, HatS2, HatR0, HatR1, HatR2⟩, ⟨HtB0, HtS0, HtR0⟩, ⟨HtB1, HtS1, HtR1⟩, HtB2, HtS2, HtR2⟩,
      ⟨HcB, HcR0, HcR1, HcR2⟩, #Hlev, ⟨%f0, Hscr⟩⟩,
    Ho, ⟨%d0, %g0, %hg0, Hx⟩, ⟨%d1, %g1, %hg1, Hw⟩, ⟨%d2, %g2, %hg2, Hl⟩, ⟨%d3, %g3, %hg3, Hout⟩⟩, Hk⟩
  have hx : g0 = xstg m c := by rw [hg0]; unfold Dat.before; rw [if_pos (fetch_0 t₀)]; rfl
  have hw : g1 = wstg m c := by rw [hg1]; unfold Dat.before; rw [if_pos (fetch_1 t₀)]; rfl
  have hl : g2 = lstg m c := by rw [hg2]; unfold Dat.before; rw [if_pos (fetch_2 t₀)]; rfl
  subst hx hw hl
  unfold Dat.owesAt Pipeline.owesWithin
  icases Ho with ⟨%W, %hW, HO⟩
  rw [show (dats m ρ 0 c).owed t₀.castSucc = O₀ c from rfl]
  ihave Hs := (Entails.of_eq (buf_slots c f0)) $$ Hscr
  icases Hs with ⟨Hs0, Hs1, Hs2, Hs3⟩
  -- the three signals, handing over slots 3, 2, 1
  simp only [dev1_eq c, dev2_eq c, dev3_eq c]
  iapply (signal_rule m K c 0 (O₀ c) (O₁ c) rfl 3 rfl f0) $$ [HO HtB0 Hs3]
  · isplitr; · iexact HR
    isplitl [HO]; · iexact HO
    isplitl [HtB0] <;> iassumption
  iintro HO
  iapply (signal_rule m K c 1 (O₁ c) (O₂ c) rfl 2 rfl f0) $$ [HO HtB1 Hs2]
  · isplitr; · iexact HR
    isplitl [HO]; · iexact HO
    isplitl [HtB1] <;> iassumption
  iintro HO
  iapply (signal_rule m K c 2 (O₂ c) (O₃ c) rfl 1 rfl f0) $$ [HO HtB2 Hs1]
  · isplitr; · iexact HR
    isplitl [HO]; · iexact HO
    isplitl [HtB2] <;> iassumption
  iintro HO
  -- the loads of the inputs; the two rows stored
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg1_0) (Finset.subset_univ _)) $$ Hw; iintro Hw
  rw [read_w]
  iapply (wp_load 𝒱₀ (c : Thread nD τ) none Set.univ (m := Memref.whole cc0_stg2_0) (Finset.subset_univ _)) $$ Hl; iintro Hl
  rw [read_l]
  unfold slotPts
  iapply (wp_load_rect 𝒱₀ (c : Thread nD τ) none Set.univ (m := bufM) (r := rowRect0) (S := slotSet 0) row0_sub) $$ Hs0; iintro Hs0
  iapply (wp_store 𝒱₀ (c : Thread nD τ) none Set.univ (m := bufM) (r := rowRect0) (Mk := Finset.univ) (S := slotSet 0) (by rw [View.setOn_univ]; exact row0_sub)) $$ Hs0; iintro Hs0
  iapply (wp_load_rect 𝒱₀ (c : Thread nD τ) none Set.univ (m := bufM) (r := rowRect1) (S := slotSet 0) row1_sub) $$ Hs0; iintro Hs0
  iapply (wp_store 𝒱₀ (c : Thread nD τ) none Set.univ (m := bufM) (r := rowRect1) (Mk := Finset.univ) (S := slotSet 0) (by rw [View.setOn_univ]; exact row1_sub)) $$ Hs0; iintro Hs0
  ihave Hs := (slot_stored m c f0) $$ Hs0
  ihave Hs' := (slot_thirds c (comm m c)).1 $$ Hs
  icases Hs' with ⟨HsA, HsB, HsC⟩
  -- the wait on the barrier
  iapply (bar_rule m K c (W := W)) $$ [HcB HO HatB]
  · isplitr; · iexact HR
    isplitr; · iexact Hlev
    isplitl [HcB]; · iexact HcB
    isplitl [HO] <;> iassumption
  iintro ⟨HO, HatB, Hp0, Hp1, Hp2⟩
  unfold barPay
  icases Hp0 with ⟨⟨%fn0, Hd0⟩, -⟩
  icases Hp1 with ⟨⟨%fn1, Hd1⟩, -⟩
  icases Hp2 with ⟨⟨%fn2, Hd2⟩, -⟩
  -- the three copies
  iapply (send_rule m K c 0 _ (dev4_eq c) 1 rfl fn0 (O₃ c) (O₄ c) rfl) $$ [HsA Hd0 HO HtS0 HtR0]
  · isplitr; · iexact HR
    isplitl [HsA]; · iexact HsA
    isplitl [Hd0]; · iexact Hd0
    isplitl [HO]; · iexact HO
    isplitl [HtS0] <;> iassumption
  iintro ⟨HcS0, HO⟩
  iapply (send_rule m K c 1 _ (dev5_eq c) 2 rfl fn1 (O₄ c) (O₅ c) rfl) $$ [HsB Hd1 HO HtS1 HtR1]
  · isplitr; · iexact HR
    isplitl [HsB]; · iexact HsB
    isplitl [Hd1]; · iexact Hd1
    isplitl [HO]; · iexact HO
    isplitl [HtS1] <;> iassumption
  iintro ⟨HcS1, HO⟩
  iapply (send_rule m K c 2 _ (dev6_eq c) 3 rfl fn2 (O₅ c) 0 (zero_add _).symm) $$ [HsC Hd2 HO HtS2 HtR2]
  · isplitr; · iexact HR
    isplitl [HsC]; · iexact HsC
    isplitl [Hd2]; · iexact Hd2
    isplitl [HO]; · iexact HO
    isplitl [HtS2] <;> iassumption
  iintro ⟨HcS2, HO⟩
  -- the six waits
  iapply (wait_snd_rule m K c 0 1 0) $$ [HcS0 HO HatS0]
  · isplitr; · iexact HR
    isplitl [HcS0]; · iexact HcS0
    isplitl [HO] <;> iassumption
  iintro ⟨HO, HatS0, HsA⟩
  iapply (wait_rcv_rule m K c 0 0 1) $$ [HcR0 HO HatR0]
  · isplitr; · iexact HR
    isplitl [HcR0]; · iexact HcR0
    isplitl [HO] <;> iassumption
  iintro ⟨HO, HatR0, Hs1⟩
  iapply (wait_snd_rule m K c 1 2 0) $$ [HcS1 HO HatS1]
  · isplitr; · iexact HR
    isplitl [HcS1]; · iexact HcS1
    isplitl [HO] <;> iassumption
  iintro ⟨HO, HatS1, HsB⟩
  iapply (wait_rcv_rule m K c 1 0 2) $$ [HcR1 HO HatR1]
  · isplitr; · iexact HR
    isplitl [HcR1]; · iexact HcR1
    isplitl [HO] <;> iassumption
  iintro ⟨HO, HatR1, Hs2⟩
  iapply (wait_snd_rule m K c 2 3 0) $$ [HcS2 HO HatS2]
  · isplitr; · iexact HR
    isplitl [HcS2]; · iexact HcS2
    isplitl [HO] <;> iassumption
  iintro ⟨HO, HatS2, HsC⟩
  iapply (wait_rcv_rule m K c 2 0 3) $$ [HcR2 HO HatR2]
  · isplitr; · iexact HR
    isplitl [HcR2]; · iexact HcR2
    isplitl [HO] <;> iassumption
  iintro ⟨HO, HatR2, Hs3⟩
  -- the buffer whole again
  ihave Hs0 := (slot_thirds c (comm m c)).2 $$ [HsA HsB HsC]
  · isplitl [HsA]; · iexact HsA
    isplitl [HsB] <;> iassumption
  ihave Hscr := (Entails.of_eq (buf_slots c (comm m c)).symm) $$ [Hs0 Hs1 Hs2 Hs3]
  · isplitl [Hs0]; · iexact Hs0
    isplitl [Hs1]; · iexact Hs1
    isplitl [Hs2]; · iexact Hs2
    iexact Hs3
  -- the cells close
  imod (close_cells m K c) $$ [HatB HatS0 HatS1 HatS2 HatR0 HatR1 HatR2] with Hz
  · isplitr; · iexact HR
    rw [bigSep_fin7]
    isplitl [HatB]; · iexact HatB
    isplitl [HatS0]; · iexact HatS0
    isplitl [HatS1]; · iexact HatS1
    isplitl [HatS2]; · iexact HatS2
    isplitl [HatR0]; · iexact HatR0
    isplitl [HatR1]; · iexact HatR1
    iexact HatR2
  -- the two loads of the whole exchange buffer, the result
  iapply (wp_load 𝒱₀ (c : Thread nD τ) none Set.univ (m := bufM) (Finset.subset_univ _)) $$ Hscr; iintro Hscr
  iapply (wp_load 𝒱₀ (c : Thread nD τ) none Set.univ (m := bufM) (Finset.subset_univ _)) $$ Hscr; iintro Hscr
  iapply (wp_load 𝒱₀ (c : Thread nD τ) none Set.univ (m := Memref.whole cc0_stg3_0) (Finset.subset_univ _)) $$ Hout; iintro Hout
  iapply (wp_store 𝒱₀ (c : Thread nD τ) none Set.univ (m := Memref.whole cc0_stg3_0) (r := rL) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl]
  isplitl [Hscr Hz]
  · isplitl [Hscr] <;> iassumption
  isplitl [HO]
  · iexists (insert (SemLoc.dma (rcvS 2), ()) (insert (SemLoc.dma (sndS 2), ()) (insert (SemLoc.dma (rcvS 1), ()) (insert (SemLoc.dma (sndS 1), ()) (insert (SemLoc.dma (rcvS 0), ()) (insert (SemLoc.dma (sndS 0), ()) (insert (SemLoc.reg barS, ()) W)))))))
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hl]
  · iexists _; isplitr; · (ipureintro; rfl)
    iexact Hl
  iexists _; isplitr; · (ipureintro; rfl)
  iexact Hout

set_option maxRecDepth 4000 in
/-- The same as the pipeline's obligation on core `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
    ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2) (fun _ => bodyPost m ρ c)
  unfold Φ₀ start
  iintro ⟨⟨⟨⟨%K, Hg⟩, Hc, Hlev⟩, Hscr⟩, Ho, Hst⟩
  iapply (sound_body m ρ K c fun _ => bodyPost m ρ c)
  unfold bodyPre credits
  isplitr []
  · isplitl [Hg Hc Hlev Hscr]
    · isplitl [Hg]; · iexact Hg
      isplitl [Hc]; · iexact Hc
      isplitl [Hlev] <;> iassumption
    isplitl [Ho] <;> iassumption
  · iintro H; iexact H

end Body

end Cert.Xent

end
-- ==== Proof.Run.lean ====
/-
# The run of the kernel on the mesh

The launch of the four kernels: the resources of the exchange are dealt out — to every device its positions and the tokens
of the duties it pays —, the barrier cells' and the transfer cells' invariants allocated for all devices at once, and what
each device owes at the start is matched by the credit it and the others hold. `run_main`: from any memory with zero
counters every fair execution terminates, with each array of the pipeline at its computed contents and every counter zero.
-/
module

public import Idealize.ShloMosaic.Lib.Pipeline.CollectiveSegs
public import proofs.«01_k».proof.Proof.Body

@[expose] public section

noncomputable section

namespace Cert.Xent

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens at launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × Fin 7 → GSem nD τ sig) := by
  rintro ⟨c, i⟩ ⟨c', i'⟩ h
  obtain rfl : c = c' := congrArg (fun g : GSem nD τ sig => g.1.1) h
  obtain rfl : i = i' := csem_injective (congrArg Prod.snd h)
  rfl
def xCells : Finset (GSem nD τ sig) := Finset.univ.map ⟨kcell, kcell_injective⟩

/-- The duties of device `c`'s own cells: its barrier's three, its send cells' and its receive cells' one each. -/
abbrev tokCell (c : Dev nD) (t k : Fin 3) : GSem nD τ sig × ℕ × Fin 3 := match t with
  | 0 => (barCell c, 0, k) | 1 => (sndCell k c, 0, 0) | 2 => (rcvCell k c, 0, 0)
theorem tokCell_dev (c : Dev nD) (t k : Fin 3) : (tokCell c t k).1.1.1 = c := by fin_cases t <;> rfl
theorem tokCell_sem (c : Dev nD) : Function.Injective fun x : Fin 3 × Fin 3 => ((tokCell c x.1 x.2).1.2, (tokCell c x.1 x.2).2.2) := by
  revert c; decide
abbrev tokOf (x : Dev nD × Fin 3 × Fin 3) : GSem nD τ sig × ℕ × Fin 3 := tokCell x.1 x.2.1 x.2.2
theorem tokOf_injective : Function.Injective tokOf := by
  rintro ⟨c, x⟩ ⟨c', x'⟩ h
  obtain rfl : c = c' := ((tokCell_dev c x.1 x.2).symm.trans (congrArg (fun g : GSem nD τ sig × ℕ × Fin 3 => g.1.1.1) h)).trans (tokCell_dev c' x'.1 x'.2)
  obtain rfl : x = x' := tokCell_sem c (congrArg (fun g : GSem nD τ sig × ℕ × Fin 3 => (g.1.2, g.2.2)) h)
  rfl
def xToks : Finset (GSem nD τ sig × ℕ × Fin 3) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop((bigSep Finset.univ fun k : Fin 3 => dutyTok ER (barCell c) 0 k) ∗ (bigSep Finset.univ fun k : Fin 3 => dutyTok ER (sndCell k c) 0 0)
    ∗ bigSep Finset.univ fun k : Fin 3 => dutyTok ER (rcvCell k c) 0 0)

/-- What the launch element deals device `c`, -/
def G (c : Dev nD) : sProp 𝕄 :=
  iprop((bigSep Finset.univ fun i : Fin 7 => roundState ER (sched m) (kcell (c, i)) 0)
    ∗ (bigSep Finset.univ fun i : Fin 7 => iprop(atPos ER (kcell (c, i)) 0 ∅ 0 ∗ reached ER (kcell (c, i)) 0)) ∗ toks c)

/-- and what the step over all devices makes of it. -/
def G' (c : Dev nD) : sProp 𝕄 := iprop(∃ K, ghost m K c)

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun i : Fin 7 => Φ (kcell (c, i)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_univ_prod, bigSep_fin3]; rfl
  iintro HX
  imod (Rounds.fund ER (sched m) xCells xToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores are the send and receive ones; -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0) := by
  rw [Pipeline.ownSems0_eq_of_list c osem [0, 1, 2, 3, 4, 5] (by decide) (by decide)]; rfl
/-- the barrier semaphore is the one semaphore outside. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊣⊢ (bigSep Finset.univ fun i : Fin 7 => semVal (kcell (c, i)) 0 : sProp 𝕄) := by
  rw [ownSems0_eq, unscopedSems0_eq, bigSep_fin7]
  refine ⟨?_, ?_⟩
  · iintro ⟨H, HB⟩
    isplitl [HB]; · iexact HB
    iexact H
  · iintro ⟨HB, H⟩
    isplitl [H]; · iexact H
    iexact HB

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (sched m) κ (kcell (c, i))))
          ∗ (bigSep Finset.univ fun i => iprop(atPos ER (kcell (c, i)) 0 ∅ 0 ∗ reached ER (kcell (c, i)) 0)) ∗ toks c) := by
  unfold G
  iintro ⟨Hos, Hus, Hst, Hat, Htok⟩
  ihave Hv := (sems0_eq (F := F) c).1 $$ [Hos Hus]
  · isplitl [Hos] <;> iassumption
  imod (show iprop((bigSep Finset.univ fun i : Fin 7 => semVal (kcell (c, i)) 0) ∗ bigSep Finset.univ fun i : Fin 7 => roundState ER (sched m) (kcell (c, i)) 0)
      ⊢ (|={Set.univ}=> bigSep Finset.univ fun i => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around the mesh -/

/-- Device `c`'s signal number `k` against duty `rev k` of the device it addresses: an involution. -/
def signalsTo : Dev nD × Fin 3 ≃ Dev nD × Fin 3 :=
  Function.Involutive.toPerm (fun x => (fwd x.2 x.1, Fin.rev x.2)) fun x => Prod.ext (fwd_rev x.2 x.1) (Fin.rev_rev x.2)
/-- Device `c`'s copy number `k` against the receive cell it addresses. -/
def copiesTo : Dev nD × Fin 3 ≃ Dev nD × Fin 3 :=
  ⟨fun x => (fwd x.2 x.1, x.2), fun x => (fwd (Fin.rev x.2) x.1, x.2), fun x => Prod.ext (fwd_rev x.2 x.1) rfl,
    fun x => Prod.ext (fwd_rev' x.2 x.1) rfl⟩

/-- A family over the devices and three numbers, dealt along a permutation of the pairs. -/
theorem deal (e : Dev nD × Fin 3 ≃ Dev nD × Fin 3) (Φ : Dev nD × Fin 3 → sProp 𝕄) :
    (bigSep Finset.univ fun c : Dev nD => bigSep Finset.univ fun k : Fin 3 => Φ (c, k))
      = bigSep Finset.univ fun c : Dev nD => bigSep Finset.univ fun k : Fin 3 => Φ (e (c, k)) := by
  rw [← bigSep_univ_prod Φ, bigSep_univ_equiv e Φ, ← bigSep_univ_prod (fun x => Φ (e x))]

theorem toks_around : (bigSep Finset.univ fun c : Dev nD => (toks c : sProp 𝕄)) ⊢ bigSep Finset.univ fun c : Dev nD => payToks c := by
  unfold toks payToks
  simp only [bigSep_sep']
  rw [deal signalsTo (fun x => (dutyTok ER (barCell x.1) 0 x.2 : sProp 𝕄)), deal copiesTo (fun x => (dutyTok ER (rcvCell x.2 x.1) 0 0 : sProp 𝕄))]
  exact BIBase.Entails.rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => iprop(∃ κ : ℕ, cellInv ER (sched m) κ (kcell (c, i))))
          ∗ (bigSep Finset.univ fun i => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ci : Dev nD × Fin 7 => iprop(∃ κ : ℕ, cellInv ER (sched m) κ (kcell ci))),
    bigSep_congr (s := Finset.univ) (fun (c : Dev nD) _ => bigSep_sep' Finset.univ (fun i : Fin 7 => (atPos ER (kcell (c, i)) 0 ∅ 0 : sProp 𝕄)) (fun i => reached ER (kcell (c, i)) 0)),
    bigSep_sep', ← bigSep_univ_prod (fun ci : Dev nD × Fin 7 => (reached ER (kcell ci) 0 : sProp 𝕄))]
  iintro ⟨HI, ⟨Hat, #HR⟩, Htok⟩
  ihave HK := (BI.bigSep_exists_pi Finset.univ (fun (ci : Dev nD × Fin 7) (κ : ℕ) => (cellInv ER (sched m) κ (kcell ci) : sProp 𝕄))) $$ HI
  icases HK with ⟨%K, #HI⟩
  ihave Htk := (toks_around (F := F)) $$ Htok
  iapply (bigSep_with_persistent (R := records m K)
    (Φ := fun c => iprop((bigSep Finset.univ fun i : Fin 7 => atPos ER (kcell (c, i)) 0 ∅ 0) ∗ payToks c))
    fun c _ => by unfold G' ghost; iintro H; iexists K; iexact H)
  isplitr
  · unfold records; isplitl; · iexact HI
    iexact HR
  · rw [bigSep_sep']
    isplitl [Hat]; · iexact Hat
    iexact Htk

/-- The step over all devices, own and outside semaphores together. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Two cells are the same exactly if their devices and semaphores are. -/
theorem cell_eq_iff {a b : Dev nD} {sm sm' : SemLoc sig} : (((a : Thread nD τ), sm) : GSem nD τ sig) = ((b : Thread nD τ), sm') ↔ a = b ∧ sm = sm' :=
  ⟨fun h => ⟨congrArg (fun g : GSem nD τ sig => g.1.1) h, congrArg Prod.snd h⟩, fun h => by rw [h.1, h.2]⟩

theorem rcv_ne_bar (k : Fin 3) : (SemLoc.dma (rcvS k) : SemLoc sig) ≠ .reg barS := fun h => by cases h
theorem rcvS_injective : Function.Injective fun k : Fin 3 => (SemLoc.dma (rcvS k) : SemLoc sig) := by decide

/-- The three signals to device `c`'s barrier are three units in all. -/
theorem sum_signals (c : Dev nD) :
    (∑ d : Dev nD, ((if c = fwd 2 d then 1 else 0) + (if c = fwd 1 d then 1 else 0) + (if c = fwd 0 d then 1 else 0) : ℕ)) = 3 := by
  revert c; decide

theorem owed_bar (d c : Dev nD) : O₀ d (barCell c) ()
    = (if c = fwd 2 d then 1 else 0) + (if c = fwd 1 d then 1 else 0) + (if c = fwd 0 d then 1 else 0) := by
  rw [O₀_apply, O₃_apply]
  simp only [cell_eq_iff, fun k => (rcv_ne_bar k).symm, and_false, if_false, and_true, Nat.zero_add, false_and]

theorem owed_rcv (d c : Dev nD) (k : Fin 3) : O₀ d (rcvCell k c) () = if fwd k d = c then N else 0 := by
  rw [O₀_apply, O₃_apply]
  simp only [cell_eq_iff, rcv_ne_bar, and_false, if_false, Nat.add_zero, eq_comm (a := c)]
  have h : ∀ j : Fin 3, ((SemLoc.dma (rcvS k) : SemLoc sig) = .dma (rcvS j)) ↔ k = j := fun j => ⟨fun h => rcvS_injective h, fun h => by rw [h]⟩
  simp only [h]
  fin_cases k <;> simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, sum_signals]

theorem launch_rcv (c : Dev nD) (k : Fin 3) :
    tallyOn (rcvCell k c) (launchCredit (Pipeline.owing O₀) 0 (rcvCell k c)) = (tallyAt (rcvCell k c) () N : CellTallies nD τ sig Unit) := by
  unfold tallyAt; refine congrArg _ (Finsupp.ext fun u => ?_); cases u
  rw [Pipeline.launchCredit_owing, Finsupp.single_eq_same, Finset.sum_congr rfl fun d _ => owed_rcv d c k,
    show (∑ d : Dev nD, if fwd k d = c then N else 0) = ∑ p : Dev nD, if p = c then N else 0 from Equiv.sum_comp (turn k) fun p => if p = c then N else 0,
    Finset.sum_ite_eq' Finset.univ c fun _ => N, if_pos (Finset.mem_univ _)]

theorem creds (c : Dev nD) : (Pipeline.launchCred O₀ c : sProp 𝕄) ⊢ credits c := by
  have h : (bigSep ({SemLoc.reg barS, .dma (rcvS 0), .dma (rcvS 1), .dma (rcvS 2)} : Finset (SemLoc sig)) fun sm =>
        cred (tallyOn ((c : Thread nD τ), sm) (launchCredit (Pipeline.owing O₀) 0 ((c : Thread nD τ), sm))) : sProp 𝕄)
      = credits c := by
    rw [bigSep_eq_bigSepL_of_eq [SemLoc.reg barS, .dma (rcvS 0), .dma (rcvS 1), .dma (rcvS 2)] (by decide) (by decide)]
    unfold credits
    rw [← launch_bar, ← launch_rcv, ← launch_rcv, ← launch_rcv]; rfl
  rw [← h]
  exact bigSep_subset (Finset.subset_univ _)

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G' credits
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq]
  unfold Φ₁
  iintro ⟨Hr, Hz⟩
  ihave Hz' := (sems0_eq (F := F) c).2 $$ Hz
  icases Hz' with ⟨Ho, Hu⟩
  isplitl [Hu]; · iexact Hu
  isplitl [Ho]; · iexact Ho
  iexists (comm m c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- Every array of the pipeline at its computed contents on every device. -/
def AtFinal : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of four devices, for any float values, from any memory with zero counters: every weakly fair execution of
    the program terminates, and every final state has each device's arrays at the computed contents and every counter zero. -/
theorem run_main : θ_run defs (onTc (τ := τ) (main (F := F))) (s₀ m ρ) (fun r => AtFinal m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input array holds after the run what it held before. -/
theorem finalA_in (c : Dev nD) (w : Fin cfg0.W) (hw : (cfg0.win w).isOut = false) :
    finalA m ρ c w = m ((cfg0.win w).arr.view.loc (c : Thread nD τ)) :=
  (dats (F := F) m ρ 0 c).arrAt_in w hw _

end Cert.Xent

end
-- ==== Proof.Frames.lean ====
/-
# The frames of the two programs and of the reference

What the run of `Run.lean` says of the arrays `@main` names: on every device the three argument arrays end as they began
and the result array ends at the contents the kernel's body computes. The program as printed and its reading at the ideal
instance are one text, so the run serves both.
-/
module

public import Idealize.ShloMosaic.Lib.Quiescent
public import Idealize.ShloMosaic.Lib.Pipeline.ValueKit
public import proofs.«01_k».proof.Proof.Run
public import proofs.«01_k».proof.Proof.Gen.Kernel
public import proofs.«01_k».proof.Proof.Gen.ReferenceIdeal.Run

@[expose] public section

noncomputable section

namespace Cert.Xent

open Cert.KernelIdeal Cert.KernelIdeal.Gen

open Idealize.ShloMosaic Idealize.ShloMosaic.TcCoe
open Idealize.SL.Sem

variable {F : FTy → Type} [FloatOps F]

/-! ## The kernel -/

section
variable (m : (ℓ : Loc nD τ sig) → Buf (Elt F) ℓ) (ρ : Dev nD → PrngReg)

/-- The result array after the run: the body's result, moved out of its staging buffer whole. -/
theorem finalA_out (c : Dev nD) : finalA m ρ c (3 : Fin 4) = outAt m c := by
  refine (dats m ρ 0 c).arrAt_eq_of_after_last (3 : Fin 4) t₀ (by decide) (outAt m c) fun j => ?_
  rfl

/-- On the mesh of four devices: every weakly fair execution terminates, and at the end every device's result array is what
    its body computed, its argument arrays are what they were, and every counter is zero. -/
theorem run_arrays : θ_run (defs (F := F)) (onTc (τ := τ) (main (F := F))) ⟨m, fun _ => 0, ρ⟩ (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run _ _ _).mono (fun _ h => ⟨fun c => ⟨(h.1 c 3).trans (finalA_out m ρ c), (h.1 c 0).trans (finalA_in m ρ c 0 rfl),
    (h.1 c 1).trans (finalA_in m ρ c 1 rfl), (h.1 c 2).trans (finalA_in m ρ c 2 rfl)⟩, h.2⟩) (run_main m ρ)

/-- The frame: the run with the result's value left out. -/
theorem run_frame : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run _ _ _).mono (fun _ h => ⟨fun c => (h.1 c).2, h.2⟩) (run_arrays m ρ)

end

/-! ## The program as printed -/

set_option maxRecDepth 65536 in
/-- The two texts have one table of bodies, -/
theorem bodies_same : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl
  | ⟨_ + 1, h⟩, _ => exact absurd h (Nat.not_lt.2 (Nat.le_add_left _ _))

/-- one table of definitions, -/
theorem defs_same : Cert.Kernel.defs (F := F) = Cert.KernelIdeal.defs (F := F) := by
  unfold Cert.Kernel.defs Cert.KernelIdeal.defs
  rw [bodies_same]
  rfl

/-- and one entry. -/
theorem main_same : Cert.Kernel.main (F := F) = Cert.KernelIdeal.main (F := F) := rfl

/-- The frame of the program as printed. -/
theorem printed_frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [defs_same, main_same]
  exact run_frame m ρ

/-! ## The reference -/

open Cert.ReferenceIdeal in
/-- The frame of the reference: it has no semaphore, and its arguments end as they began. -/
theorem reference_frame (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, Idealize.ShloMosaic.sem_eq_zero_of_no_sems (by decide) r.2⟩)
    (Cert.ReferenceIdeal.Value.run m ρ)

end Cert.Xent

end
-- ==== Proof.Local.lean ====
/-
# What one device computes, at an index

The two rows a device contributes and the result it forms, read at one token over the extended reals: sums over the device's
columns of the exponentials of the logits, of the logits picked by the label, and the logarithm of the one less the other.
-/
module

public import proofs.«01_k».proof.Proof.Slots
public import Idealize.ShloMosaic.Lib.Pointwise

@[expose] public section

noncomputable section

namespace Cert.Xent

open Cert.KernelIdeal Cert.KernelIdeal.Gen
open Idealize.ShloMosaic

/-- The logits of a device's block of columns. -/
theorem logit_apply (x : Vec Ideal S256x512 .f32) (w : Vec Ideal S512x4096 .f32) (t : Fin 256) (v : Fin 4096) :
    k0_pay2 x w (ix2 t v) = ∑ k : Fin 512, x (ix2 t k) * w (ix2 k v) := by
  pointwise [k0_pay2]

/-- The sum over the columns of the exponentials. -/
theorem sum_apply (x : Vec Ideal S256x512 .f32) (w : Vec Ideal S512x4096 .f32) (t : Fin 256) :
    k0_pay5 (k0_pay3 x w) (ix3 0 0 t) = ∑ v : Fin 4096, Ideal.exp (k0_pay2 x w (ix2 t v)) := by
  pointwise [k0_pay5, k0_pay3]

/-- The label's column counted from the device's first one, alike along the row. -/
theorem shifted_apply (c : Dev nD) (l : Vec Ideal S256 .i32) (t : Fin 256) (v : Fin 4096) :
    k0_pay4 (F := Ideal) c l (ix2 t v) = l (ix1 t) - Scalar.muli (Scalar.remsi (Scalar.divsi (Dev.word c) 1#32) 4#32) 4096#32 := by
  pointwise [k0_pay4]
  rfl

/-- The sum over the columns of the logits where the column's number is the given word. -/
theorem pick_apply (y : FVec Ideal S256x4096 .f32) (a b : IVec S256x4096 32) (t : Fin 256) :
    k0_pay6 y a b (ix3 0 0 t) = ∑ v : Fin 4096, if a (ix2 t v) = b (ix2 t v) then y (ix2 t v) else 0 := by
  pointwise [k0_pay6]
  refine Finset.sum_congr rfl fun v _ => ?_
  by_cases h : a (ix2 t v) = b (ix2 t v)
  · simp [Scalar.select, IntOp.cmpi, h]
  · simp [Scalar.select, IntOp.cmpi, h, beq_eq_false_iff_ne.mpr h]

/-- The number of column `v` as a word. -/
theorem column_apply (t : Fin 256) (v : Fin 4096) :
    iota .tc S256x4096 32 [1] iota_S256x4096_d1_w32 (ix2 t v) = BitVec.ofNat 32 v.val := by
  pointwise

/-- The number of device `c`'s first column as a word. -/
theorem first_column (c : Dev nD) : Scalar.muli (Scalar.remsi (Scalar.divsi (Dev.word c) 1#32) 4#32) 4096#32 = BitVec.ofNat 32 (c.val * 4096) := by
  revert c; decide

/-- The device's column `v` is the label's exactly if the label is the column's number in the whole array. -/
theorem column_eq_iff (c : Dev nD) (v : Fin 4096) (l : BitVec 32) (hl : l.toNat < 16384) :
    BitVec.ofNat 32 v.val = l - BitVec.ofNat 32 (c.val * 4096) ↔ l.toNat = c.val * 4096 + v.val := by
  have hc : c.val < 4 := c.isLt
  have hv := v.isLt
  rw [← BitVec.toNat_inj, BitVec.toNat_sub, BitVec.toNat_ofNat, BitVec.toNat_ofNat, Nat.mod_eq_of_lt (by omega), Nat.mod_eq_of_lt (a := c.val * 4096) (by omega)]
  omega

/-- The logarithm of the sum of the four sums, less the sum of the four picked logits. -/
theorem out_apply (a b : Vec Ideal S4x1x256 .f32) (t : Fin 256) :
    k0_pay1 a b (ix1 t) = Ideal.log (∑ s : Fin 4, a (ix3 s 0 t)) - ∑ s : Fin 4, b (ix3 s 0 t) := by
  pointwise [k0_pay1]

end Cert.Xent

end
-- ==== Proof.Sums.lean ====
/-
# Sums of exponentials, whole and in blocks

The sums over a device's columns, added over the devices in any order, are the sum over all columns; and the logarithm of a sum
of exponentials is what it is when a real is taken off every exponent and added back.
-/
module

public import proofs.«01_k».proof.Proof.Local

@[expose] public section

noncomputable section

namespace Cert.Xent

open Cert.KernelIdeal
open Idealize.ShloMosaic

/-- Column `v` of device `d`, counted in the whole array. -/
def wholeCol (d : Fin 4) (v : Fin 4096) : Fin 16384 := ⟨d.val * 4096 + v.val, by omega⟩

/-- The devices before `c`, taken in the order of the slots, are all devices. -/
theorem srcOf_bijective (c : Dev nD) : Function.Bijective fun s : Fin 4 => (srcOf s c : Fin 4) := by
  revert c; decide

/-- A sum over all columns, device by device. -/
theorem sum_blocks (f : Fin 16384 → EReal) : ∑ d : Fin 4, ∑ v : Fin 4096, f (wholeCol d v) = ∑ j : Fin 16384, f j := by
  rw [← Fintype.sum_prod_type']
  refine Fintype.sum_equiv (finProdFinEquiv (m := 4) (n := 4096)) _ _ fun p => congrArg f (Fin.ext ?_)
  simp [wholeCol, finProdFinEquiv]
  omega

/-- The same in the order of the slots. -/
theorem sum_slots (c : Dev nD) (f : Fin 16384 → EReal) :
    ∑ s : Fin 4, ∑ v : Fin 4096, f (wholeCol (srcOf s c) v) = ∑ j : Fin 16384, f j := by
  rw [← sum_blocks f]
  exact Fintype.sum_bijective _ (srcOf_bijective c) _ _ fun _ => rfl

/-- A sum of reals is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- The greatest of finitely many reals is a real. -/
theorem greatest_real {ι : Type} [Fintype ι] [Nonempty ι] (f : ι → ℝ) :
    ∃ M : ℝ, (Finset.univ.fold max (⊥ : EReal) fun i => (f i : EReal)) = M := by
  have h1 : (⊥ : EReal) < Finset.univ.fold max (⊥ : EReal) fun i => (f i : EReal) :=
    (Finset.lt_fold_max _).2 (Or.inr ⟨Classical.arbitrary ι, Finset.mem_univ _, EReal.bot_lt_coe _⟩)
  have h2 : (Finset.univ.fold max (⊥ : EReal) fun i => (f i : EReal)) < ⊤ :=
    (Finset.fold_max_lt _).2 ⟨bot_lt_top, fun i _ => EReal.coe_lt_top _⟩
  exact ⟨_, (EReal.coe_toReal h2.ne h1.ne').symm⟩

/-- The logarithm of a sum of exponentials, with a real taken off every exponent and added back. -/
theorem log_sum_exp {ι : Type} [Fintype ι] [Nonempty ι] (f : ι → ℝ) (M : ℝ) :
    (M : EReal) + Ideal.log (∑ i, Ideal.exp ((f i : EReal) - (M : EReal))) = Ideal.log (∑ i, Ideal.exp (f i : EReal)) := by
  have hpos (g : ι → ℝ) : 0 < ∑ i, Real.exp (g i) := Finset.sum_pos (fun i _ => Real.exp_pos _) Finset.univ_nonempty
  have hs : ∑ i, Real.exp (f i - M) = (∑ i, Real.exp (f i)) / Real.exp M := by
    rw [Finset.sum_div]; exact Finset.sum_congr rfl fun i _ => Real.exp_sub _ _
  simp only [← EReal.coe_sub, Ideal.exp_coe, coe_sum, Ideal.log_coe]
  rw [if_neg (hpos _).not_ge, if_neg (hpos _).not_ge, ← EReal.coe_add, hs, Real.log_div (hpos _).ne' (Real.exp_pos _).ne',
    Real.log_exp, add_sub_cancel]

end Cert.Xent

end
-- ==== Proof.Reference.lean ====
/-
# What the reference computes, at an index

The reference's composed term read at one token over the extended reals: the greatest logit `M`, plus the logarithm of the sum of
the exponentials of the logits less `M`, less the logit at the label.
-/
module

public import proofs.«01_k».proof.Proof.Gen.ReferenceIdeal.Run
public import Idealize.ShloMosaic.Lib.Pointwise

@[expose] public section

noncomputable section

namespace Cert.Xent.Reference

open Cert.ReferenceIdeal Cert.ReferenceIdeal.Gen
open Idealize.ShloMosaic Idealize.SL.Sem

/-- The logits of all columns. -/
def logits (x : Vec Ideal S256x512 .f32) (w : Vec Ideal S512x16384 .f32) : FVec Ideal S256x16384 .f32 :=
  Host.dotGeneral (F := Ideal) (φ₁ := .f32) (φ₂ := .f32) dot_S256x512_S512x16384_S256x16384_1_0_0_1_n_n none x w

theorem logits_apply (x : Vec Ideal S256x512 .f32) (w : Vec Ideal S512x16384 .f32) (t : Fin 256) (v : Fin 16384) :
    logits x w (ix2 t v) = ∑ k : Fin 512, x (ix2 t k) * w (ix2 k v) := by
  pointwise [logits]

/-- The greatest of each token's logits. -/
def greatest (y : FVec Ideal S256x16384 .f32) : FVec Ideal S256 .f32 :=
  Host.reduce FloatOps.maximumf y (constant S_ .f32 0xFF800000#32) reducesTo_S256x16384_S256_d1 h_S_

theorem greatest_apply (y : FVec Ideal S256x16384 .f32) (t : Fin 256) :
    greatest y (ix1 t) = Finset.univ.fold max ⊥ fun v : Fin 16384 => y (ix2 t v) := by
  pointwise [greatest]
  rw [show Ideal.ofBits .f32 4286578688#32 = ⊥ by simp [Ideal.ofBits, Ideal.ieee]]

/-- The logarithm of the sum of exponentials, by way of the greatest logit. -/
def lse (y : FVec Ideal S256x16384 .f32) (M : FVec Ideal S256 .f32) : FVec Ideal S256 .f32 :=
  shapeCast _ (addf (broadcastInDim S256x1 ![0] bcast_S256_S256x1_0 M) (Host.log (broadcastInDim S256x1 ![0] bcast_S256_S256x1_0
    (Host.reduceAdd (Host.exp (subf y (broadcastInDim S256x16384 ![0, 1] bcast_S256x1_S256x16384_0_1 (broadcastInDim S256x1 ![0] bcast_S256_S256x1_0 M))))
      (constant S_ .f32 0x00000000#32) reducesTo_S256x16384_S256_d1 h_S_)))) shapeCasts_S256x1_S256

theorem lse_apply (y : FVec Ideal S256x16384 .f32) (M : FVec Ideal S256 .f32) (t : Fin 256) :
    lse y M (ix1 t) = M (ix1 t) + Ideal.log (∑ v : Fin 16384, Ideal.exp (y (ix2 t v) - M (ix1 t))) := by
  pointwise [lse]

/-- A word that is not negative is kept by the choice between it and its wrapped-around value. -/
theorem select_of_nonneg (a b : BitVec 32) (h : a.toNat < 2 ^ 31) : Scalar.select (IntOp.cmpi .slt a 0#32) b a = a := by
  have h0 : a.slt 0#32 = false := by
    simp only [BitVec.slt, BitVec.toInt_eq_toNat_of_lt (show 2 * a.toNat < 2 ^ 32 by omega), BitVec.toInt_zero, decide_eq_false_iff_not]
    omega
  simp [Scalar.select, IntOp.cmpi, h0]

/-- The pairs of coordinates the labels' logits are gathered at: the token and its label. -/
def places (l : Vec Ideal S256 .i32) : IVec S256x2 32 :=
  concatenate S256x2 1 [⟨S256x1, (broadcastInDim S256x1 ![0] bcast_S256_S256x1_0 (select (cmpi .slt (iotaInDim S256 32 0) (broadcastInDim S256 ![] bcast_S_S256 (constantI S_ 32 0#32))) (addi (iotaInDim S256 32 0) (broadcastInDim S256 ![] bcast_S_S256 (constantI S_ 32 256#32))) (iotaInDim S256 32 0)))⟩,
    ⟨S256x1, (broadcastInDim S256x1 ![0] bcast_S256_S256x1_0 (select (cmpi .slt l (broadcastInDim S256 ![] bcast_S_S256 (constantI S_ 32 0#32))) (addi l (broadcastInDim S256 ![] bcast_S_S256 (constantI S_ 32 16384#32))) l))⟩] concatenates_S256x1_S256x1_S256x2_d1

theorem places_token (l : Vec Ideal S256 .i32) (t : Fin 256) : places l (ix2 t 0) = BitVec.ofNat 32 t.val := by
  pointwise [places]
  exact select_of_nonneg _ _ (by rw [BitVec.toNat_ofNat]; omega)

theorem places_label (l : Vec Ideal S256 .i32) (t : Fin 256) (hl : (l (ix1 t)).toNat < 16384) :
    places l (ix2 t 1) = l (ix1 t) := by
  pointwise [places]
  exact select_of_nonneg _ _ (by omega)

/-- The gather reads the operand at the pair, clamped to the operand's extents. -/
theorem gather_apply (y : FVec Ideal S256x16384 .f32) (p : IVec S256x2 32) (t : Fin 256) :
    Host.gather gather_S256x16384_S256x2_S256_n_01_n_n_01_1_11 y p (ix1 t)
      = y (ix2 ⟨min (p (ix2 t 0)).toInt.toNat 255, by omega⟩ ⟨min (p (ix2 t 1)).toInt.toNat 16383, by omega⟩) := by
  unfold Host.gather
  refine congrArg y (funext fun a => ?_)
  fin_cases a <;> refine Fin.ext ?_
  · simp only [GatherDims.operandIdx]
    rw [GatherDims.batchCoord_eq_zero _ _ _ (by decide), GatherDims.offCoord_eq_zero _ _ _ (by decide)]
    simp only [GatherDims.start]
    rw [dif_pos (by decide)]
    refine congrArg (fun i => min (p i).toInt.toNat 255) (funext fun b => ?_)
    fin_cases b <;> exact Fin.ext rfl
  · simp only [GatherDims.operandIdx]
    rw [GatherDims.batchCoord_eq_zero _ _ _ (by decide), GatherDims.offCoord_eq_zero _ _ _ (by decide)]
    simp only [GatherDims.start]
    rw [dif_pos (by decide)]
    refine congrArg (fun i => min (p i).toInt.toNat 16383) (funext fun b => ?_)
    fin_cases b <;> exact Fin.ext rfl

/-- A label in range, as a column. -/
def col (l : Vec Ideal S256 .i32) (hl : ∀ t, (l (ix1 t)).toNat < 16384) (t : Fin 256) : Fin 16384 := ⟨(l (ix1 t)).toNat, hl t⟩

/-- The gather at the pairs of token and label picks the token's logit at its label. -/
theorem pick_apply (y : FVec Ideal S256x16384 .f32) (l : Vec Ideal S256 .i32) (hl : ∀ t, (l (ix1 t)).toNat < 16384) (t : Fin 256) :
    Host.gather gather_S256x16384_S256x2_S256_n_01_n_n_01_1_11 y (places l) (ix1 t) = y (ix2 t (col l hl t)) := by
  have h1 := hl t
  have ht : (BitVec.ofNat 32 t.val).toNat = t.val := by rw [BitVec.toNat_ofNat]; omega
  rw [gather_apply]
  refine congrArg y (congrArg₂ ix2 (Fin.ext ?_) (Fin.ext ?_))
  · show min (places l (ix2 t 0)).toInt.toNat 255 = t.val
    rw [places_token, BitVec.toInt_eq_toNat_of_lt (by omega), ht]
    omega
  · show min (places l (ix2 t 1)).toInt.toNat 16383 = (l (ix1 t)).toNat
    rw [places_label l t h1, BitVec.toInt_eq_toNat_of_lt (by omega)]
    omega

/-- A difference of two vectors, at a token. -/
theorem subf_at (a b : FVec Ideal S256 .f32) (t : Fin 256) : subf a b (ix1 t) = (a (ix1 t) : EReal) - b (ix1 t) := rfl

/-- The reference's result as a function of its arguments. -/
def loss (x : Vec Ideal S256x512 .f32) (w : Vec Ideal S512x16384 .f32) (l : Vec Ideal S256 .i32) : FVec Ideal S256 .f32 :=
  subf (lse (logits x w) (greatest (logits x w)))
    (Host.gather gather_S256x16384_S256x2_S256_n_01_n_n_01_1_11 (logits x w) (places l))

/-- The reference's result at a token. -/
theorem loss_apply (x : Vec Ideal S256x512 .f32) (w : Vec Ideal S512x16384 .f32) (l : Vec Ideal S256 .i32)
    (hl : ∀ t, (l (ix1 t)).toNat < 16384) (t : Fin 256) :
    loss x w l (ix1 t) = greatest (logits x w) (ix1 t)
      + Ideal.log (∑ v : Fin 16384, Ideal.exp (logits x w (ix2 t v) - greatest (logits x w) (ix1 t))) - logits x w (ix2 t (col l hl t)) := by
  rw [loss, subf_at, lse_apply, pick_apply _ l hl]

/-- The reference runs, ends with `loss` of its arguments as its result, and its arguments unchanged. -/
theorem run_loss (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v26) = loss (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

end Cert.Xent.Reference

end
-- ==== Proof.Inputs.lean ====
/-
# The precondition, read back

What the precondition says of one device's arguments: every activation and every weight is a real, and every label is the number
of a column of the whole array.
-/
module

public import proofs.«01_k».proof.Defs
public import proofs.«01_k».proof.Proof.Gen.Pre_inputs_ok_KernelIdeal
public import Idealize.ShloMosaic.Lib.ReduceAll
public import Idealize.ShloMosaic.Lib.Pointwise

@[expose] public section

noncomputable section

namespace Cert.Xent.Inputs

open Cert.Pre_inputs_ok_KernelIdeal Cert.Pre_inputs_ok_KernelIdeal.Gen Cert.Pre_inputs_ok_KernelIdeal.Facts
open Idealize.ShloMosaic

attribute [local instance] Cert.Pre_inputs_ok_KernelIdeal.Gen.facts

/-- A value whose absolute value is below infinity is a real. -/
theorem real_of_abs_lt (x : EReal) (h : Ideal.cmp .olt (max x (-x)) (Ideal.ofBits .f32 0x7F800000#32) = 1#1) : ∃ r : ℝ, x = r := by
  have hi : Ideal.ofBits .f32 0x7F800000#32 = ⊤ := by simp [Ideal.ofBits, Ideal.ieee]
  rw [hi] at h
  have h' : max x (-x) < ⊤ := by
    by_contra hn
    simp [Ideal.cmp, hn] at h
  refine ⟨x.toReal, (EReal.coe_toReal (fun e => ?_) (fun e => ?_)).symm⟩ <;> simp [e] at h'

/-- A word at least 0 and below 16384, read signed, is below 16384. -/
theorem toNat_lt_of_range (a : BitVec 32) (h0 : IntOp.cmpi .sge a 0#32 = 1#1) (h1 : IntOp.cmpi .slt a 16384#32 = 1#1) : a.toNat < 16384 := by
  have h0' := IntOp.cmpi_sge.1 h0
  have h1' := IntOp.cmpi_slt.1 h1
  have e0 : (0#32).toInt = 0 := by decide
  have e1 : (16384#32).toInt = 16384 := by decide
  rw [e0] at h0'
  rw [e1] at h1'
  rw [BitVec.toInt_eq_toNat_cond] at h0' h1'
  split at h0' <;> omega

instance : Subsingleton S_.Idx := ⟨fun a b => funext fun i => i.elim0⟩

/-- The precondition of one device's arguments: reals, and labels in range. -/
theorem unpack (x : FVec Ideal S256x512 .f32) (w : FVec Ideal S512x4096 .f32) (l : IVec S256 32)
    (h : fn (F := Ideal) x w l = fun _ => 1#1) :
    (∀ i, ∃ r : ℝ, x i = r) ∧ (∀ i, ∃ r : ℝ, w i = r) ∧ ∀ i, (l i).toNat < 16384 := by
  have h := congrFun h (Shape.Idx.first Facts.h_S_)
  obtain ⟨h012, h3⟩ := IntOp.andi_eq_one.1 h
  obtain ⟨h01, h2⟩ := IntOp.andi_eq_one.1 h012
  obtain ⟨h0, h1⟩ := IntOp.andi_eq_one.1 h01
  exact ⟨fun i => real_of_abs_lt _ (Host.reduce_andi_all _ _ _ _ _ h0 i), fun i => real_of_abs_lt _ (Host.reduce_andi_all _ _ _ _ _ h1 i),
    fun i => toNat_lt_of_range _ (Host.reduce_andi_all _ _ _ _ _ h2 i) (Host.reduce_andi_all _ _ _ _ _ h3 i)⟩

end Cert.Xent.Inputs

end
-- ==== Proof.Value.lean ====
/-
# The equation

The kernel's result at a token, on every device, is the reference's: the four devices' sums are the sum over all columns, the four
picked logits are the one logit at the label, and the reference's way by the greatest logit changes nothing on reals.
-/
module

public import proofs.«01_k».proof.Proof.Local
public import proofs.«01_k».proof.Proof.Sums
public import proofs.«01_k».proof.Proof.Frames
public import proofs.«01_k».proof.Proof.Reference
public import proofs.«01_k».proof.Proof.Inputs
public import Idealize.ShloMosaic.Lib.Layout

@[expose] public section

noncomputable section

namespace Cert.Xent

open Cert.KernelIdeal Cert.KernelIdeal.Gen
open Idealize.ShloMosaic Idealize.SL.Sem

variable (m : (ℓ : Loc nD τ sig) → Buf (Elt Ideal) ℓ)

/-- The staged copies are the arrays. -/
theorem xstg_eq (c : Dev nD) : xstg m c = m ((c.tc : Thread nD τ).loc main_arg0) := by
  funext i
  exact congrArg (m ((c.tc : Thread nD τ).loc main_arg0)) (funext fun a => by fin_cases a <;> exact Fin.ext (by simp [win0_0]; rfl))
theorem wstg_eq (c : Dev nD) : wstg m c = m ((c.tc : Thread nD τ).loc main_arg1) := by
  funext i
  exact congrArg (m ((c.tc : Thread nD τ).loc main_arg1)) (funext fun a => by fin_cases a <;> exact Fin.ext (by simp [win0_1]; rfl))
theorem lstg_eq (c : Dev nD) : lstg m c = m ((c.tc : Thread nD τ).loc main_arg2) := by
  funext i
  exact congrArg (m ((c.tc : Thread nD τ).loc main_arg2)) (funext fun a => by fin_cases a <;> exact Fin.ext (by simp [win0_2]; rfl))

/-- Slot `s` of the exchange buffer: the sums of the device whose message it holds. -/
theorem sums_slot (c : Dev nD) (s : Fin 4) (t : Fin 256) :
    bufM.view.readAt (Elt Ideal) (Rect.unit (s := S4x2x256) ![0, 0, 0] S4x1x256.size inb_S4x2x256_S4x1x256_0_0_0).toLoadRect (comm m c) (ix3 s 0 t)
      = sumRow m (srcOf s c) (ix3 0 0 t) := by
  have h : (Rect.unit (s := S4x2x256) ![0, 0, 0] S4x1x256.size inb_S4x2x256_S4x1x256_0_0_0).toLoadRect.idx (ix3 s 0 t) = ix3 s 0 t := by
    funext a
    refine Fin.ext ?_
    fin_cases a <;> simp [Rect.unit, LoadRect.idx, Rect.toLoadRect]
  exact congrArg (comm m c) h

/-- Slot `s` of the exchange buffer: the picked logits of the device whose message it holds. -/
theorem picks_slot (c : Dev nD) (s : Fin 4) (t : Fin 256) :
    bufM.view.readAt (Elt Ideal) (Rect.unit (s := S4x2x256) ![0, 1, 0] S4x1x256.size inb_S4x2x256_S4x1x256_0_1_0).toLoadRect (comm m c) (ix3 s 0 t)
      = labRow m (srcOf s c) (ix3 0 0 t) := by
  have h : (Rect.unit (s := S4x2x256) ![0, 1, 0] S4x1x256.size inb_S4x2x256_S4x1x256_0_1_0).toLoadRect.idx (ix3 s 0 t) = ix3 s 1 t := by
    funext a
    refine Fin.ext ?_
    fin_cases a <;> simp [Rect.unit, LoadRect.idx, Rect.toLoadRect]
  exact congrArg (comm m c) h

/-- A device's block at an index, in the whole array. -/
theorem block_at (W : Vec Ideal ⟨2, ![512, 16384]⟩ .f32) (d : Fin 4) (k : Fin 512) (v : Fin 4096) :
    (Layout.block ⟨2, ![512, 4096]⟩ ⟨2, ![512, 16384]⟩ 1 4 d W : Vec Ideal ⟨2, ![512, 4096]⟩ .f32) (ix2 k v) = W (ix2 k (wholeCol d v)) := by
  rw [Layout.block_apply]
  exact congrArg W (funext fun b => by fin_cases b <;> exact Fin.ext rfl)

/-- A device's logit is the whole array's at the column's number there. -/
theorem logit_block (x : Vec Ideal S256x512 .f32) (W : Vec Ideal ⟨2, ![512, 16384]⟩ .f32) (d : Fin 4) (t : Fin 256) (v : Fin 4096) :
    k0_pay2 x (Layout.block ⟨2, ![512, 4096]⟩ ⟨2, ![512, 16384]⟩ 1 4 d W) (ix2 t v) = Reference.logits x W (ix2 t (wholeCol d v)) := by
  rw [logit_apply, Reference.logits_apply]
  refine Finset.sum_congr rfl fun k _ => congrArg (x (ix2 t k) * ·) (block_at W d k v)

variable (x : Vec Ideal S256x512 .f32) (W : Vec Ideal ⟨2, ![512, 16384]⟩ .f32) (l : Vec Ideal S256 .i32)
  (hx : ∀ c : Dev nD, m ((c.tc : Thread nD τ).loc main_arg0) = x)
  (hW : ∀ c : Dev nD, m ((c.tc : Thread nD τ).loc main_arg1) = Layout.block ⟨2, ![512, 4096]⟩ ⟨2, ![512, 16384]⟩ 1 4 c W)
  (hL : ∀ c : Dev nD, m ((c.tc : Thread nD τ).loc main_arg2) = l)
include hx hW

/-- A device's sums, as a sum over its columns of the whole array. -/
theorem sumRow_apply (d : Dev nD) (t : Fin 256) :
    sumRow m d (ix3 0 0 t) = ∑ v : Fin 4096, Ideal.exp (Reference.logits x W (ix2 t (wholeCol d v))) := by
  unfold sumRow
  rw [xstg_eq, wstg_eq, hx, hW, sum_apply]
  exact Finset.sum_congr rfl fun v _ => by rw [logit_block]

include hL

/-- A device's picked logits, as a sum over its columns of the whole array. -/
theorem labRow_apply (hl : ∀ t, (l (ix1 t)).toNat < 16384) (d : Dev nD) (t : Fin 256) :
    labRow m d (ix3 0 0 t)
      = ∑ v : Fin 4096, (fun j => if Reference.col l hl t = j then Reference.logits x W (ix2 t j) else 0) (wholeCol d v) := by
  unfold labRow
  rw [xstg_eq, wstg_eq, lstg_eq, hx, hW, hL, pick_apply]
  refine Finset.sum_congr rfl fun v _ => ?_
  rw [logit_block, column_apply, shifted_apply, first_column]
  refine if_congr ((column_eq_iff d v _ (hl t)).trans ?_) rfl rfl
  rw [Fin.ext_iff]
  rfl

/-- The kernel's result at a token: the logarithm of the sum over all columns of the exponentials, less the logit at the label. -/
theorem outAt_apply (hl : ∀ t, (l (ix1 t)).toNat < 16384) (c : Dev nD) (t : Fin 256) :
    outAt m c (ix1 t) = Ideal.log (∑ j : Fin 16384, Ideal.exp (Reference.logits x W (ix2 t j)))
      - Reference.logits x W (ix2 t (Reference.col l hl t)) := by
  unfold outAt
  rw [out_apply]
  refine congrArg₂ (fun a b : EReal => Ideal.log a - b)
    ((Finset.sum_congr rfl fun s _ => (sums_slot m c s t).trans (sumRow_apply m x W hx hW (srcOf s c) t)).trans
      (sum_slots c fun j => Ideal.exp (Reference.logits x W (ix2 t j))))
    ((Finset.sum_congr rfl fun s _ => (picks_slot m c s t).trans (labRow_apply m x W l hx hW hL hl (srcOf s c) t)).trans
      ((sum_slots c fun j => if Reference.col l hl t = j then Reference.logits x W (ix2 t j) else 0).trans ?_))
  rw [Finset.sum_ite_eq, if_pos (Finset.mem_univ _)]

omit hx hW hL in
/-- Logits of reals are reals. -/
theorem logits_real (hxr : ∀ i, ∃ r : ℝ, x i = r) (hWr : ∀ i, ∃ r : ℝ, W i = r) (t : Fin 256) (j : Fin 16384) :
    ∃ r : ℝ, Reference.logits x W (ix2 t j) = r := by
  choose X hX using hxr
  choose V hV using hWr
  refine ⟨∑ k : Fin 512, X (ix2 t k) * V (ix2 k j), ?_⟩
  rw [Reference.logits_apply, ← coe_sum]
  exact Finset.sum_congr rfl fun k _ => by rw [hX, hV, EReal.coe_mul]

/-- On reals and labels in range, every device's result is the reference's. -/
theorem outAt_eq_loss (hxr : ∀ i, ∃ r : ℝ, x i = r) (hWr : ∀ i, ∃ r : ℝ, W i = r) (hl : ∀ t, (l (ix1 t)).toNat < 16384) (c : Dev nD) :
    outAt m c = Reference.loss x W l := by
  refine funext fun i => ?_
  obtain ⟨t, rfl⟩ : ∃ t : Fin 256, i = ix1 t := ⟨i 0, funext fun a => by fin_cases a; rfl⟩
  rw [outAt_apply m x W l hx hW hL hl, Reference.loss_apply x W l hl]
  choose Y hY using logits_real x W hxr hWr t
  obtain ⟨M, hM⟩ := greatest_real Y
  have hG : Reference.greatest (Reference.logits x W) (ix1 t) = (M : EReal) := by
    rw [Reference.greatest_apply, ← hM]
    exact congrArg (Finset.univ.fold max ⊥) (funext hY)
  rw [hG]
  simp only [hY]
  rw [log_sum_exp]

omit hx hW hL in
/-- Every entry of the whole array is an entry of one device's block. -/
theorem real_of_blocks (h : ∀ (d : Fin 4) (i : Shape.Idx ⟨2, ![512, 4096]⟩), ∃ r : ℝ,
    (Layout.block ⟨2, ![512, 4096]⟩ ⟨2, ![512, 16384]⟩ 1 4 d W : Vec Ideal ⟨2, ![512, 4096]⟩ .f32) i = (r : EReal))
    (i : Shape.Idx ⟨2, ![512, 16384]⟩) : ∃ r : ℝ, W i = (r : EReal) := by
  obtain ⟨k, j, rfl⟩ : ∃ (k : Fin 512) (j : Fin 16384), i = ix2 k j := ⟨i 0, i 1, funext fun b => by fin_cases b <;> rfl⟩
  obtain ⟨d, v, rfl⟩ : ∃ (d : Fin 4) (v : Fin 4096), j = wholeCol d v :=
    ⟨⟨j.val / 4096, by omega⟩, ⟨j.val % 4096, by omega⟩, Fin.ext (by simp only [wholeCol]; omega)⟩
  obtain ⟨r, hr⟩ := h d (ix2 k v)
  exact ⟨r, (block_at W d k v).symm.trans hr⟩

end Cert.Xent

namespace Cert.Xent

open Idealize.ShloMosaic Idealize.SL.Sem

/-- The kernel and the reference end with the same result on every device. -/
theorem same_result : Cert.algebraic_KernelIdeal_ReferenceIdeal_pre_inputs_ok_KernelIdeal (hKernelIdeal := Cert.KernelIdeal.Gen.facts)
    (hReferenceIdeal := Cert.ReferenceIdeal.Gen.facts) (hPre_inputs_ok_KernelIdeal := Cert.Pre_inputs_ok_KernelIdeal.Gen.facts) := by
  intro m g m' g' hpre hin
  have hp := fun c => Inputs.unpack _ _ _ (hpre c)
  refine ⟨_, (θ_run _ _ _).mono (fun r h c => ⟨(h.1 c).1.trans ?_, (h.1 c).2⟩) (run_arrays m g),
    (θ_run _ _ _).mono (fun r h => h 0) (Reference.run_loss m' g')⟩
  refine outAt_eq_loss m _ _ _ (fun c => (hin c).1) (fun c => (hin c).2.1) (fun c => (hin c).2.2) ?_ ?_ ?_ c
  · rw [← (hin 0).1]
    exact (hp 0).1
  · refine real_of_blocks _ fun d i => ?_
    rw [← (hin d).2.1]
    exact (hp d).2.1 i
  · intro t
    rw [← (hin 0).2.2]
    exact (hp 0).2.2 _

end Cert.Xent

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_inputs_ok_KernelIdeal
public import proofs.«01_k».proof.Proof.Gen.Pre_inputs_ok_ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim: the frames of the three programs, the idealization that rewrote nothing, and the kernel's result equal to the
    reference's. -/
theorem claim : Cert.Claim := ⟨Cert.Kernel.Gen.facts, Cert.KernelIdeal.Gen.facts, Cert.ReferenceIdeal.Gen.facts,
  Cert.Pre_inputs_ok_KernelIdeal.Gen.facts, Cert.Pre_inputs_ok_ReferenceIdeal.Gen.facts,
  fun m g _ => Cert.Xent.printed_frame m g, fun m g _ => Cert.Xent.run_frame m g, fun m g _ => Cert.Xent.run_frame m g,
  fun m g _ => Cert.Xent.reference_frame m g, fun m g _ => Cert.Xent.reference_frame m g, trivial, Cert.Xent.same_result⟩

end Cert.Proof

end
